-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024x64 : Shape := ⟨3, ![32, 1024, 64]⟩
abbrev S1024x64 : Shape := ⟨2, ![1024, 64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x1024x64 .f32) (main_arg1 : FVec F S1024x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S32x1024x64 : Shape := ⟨3, ![32, 1024, 64]⟩
abbrev S1024x64 : Shape := ⟨2, ![1024, 64]⟩
abbrev S_ : Shape := ⟨0, ![]⟩
abbrev S32x1024 : Shape := ⟨2, ![32, 1024]⟩
abbrev S1024 : Shape := ⟨1, ![1024]⟩
abbrev S1024x1 : Shape := ⟨2, ![1024, 1]⟩
abbrev S1x1 : Shape := ⟨2, ![1, 1]⟩
abbrev S8x256x64 : Shape := ⟨3, ![8, 256, 64]⟩
abbrev S8x256 : Shape := ⟨2, ![8, 256]⟩
abbrev S1024x128 : Shape := ⟨2, ![1024, 128]⟩
abbrev S2048x64 : Shape := ⟨2, ![2048, 64]⟩
abbrev S1x2048 : Shape := ⟨2, ![1, 2048]⟩
abbrev S1024x2048 : Shape := ⟨2, ![1024, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S1x1024x1 : Shape := ⟨3, ![1, 1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S32x1024x64, .f32⟩
  | .hbm, ⟨3, _⟩ => ⟨S_, .f32⟩
  | .hbm, ⟨4, _⟩ => ⟨S32x1024, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S32x1024x64, .f32⟩
  | .hbm, ⟨10, _⟩ => ⟨S32x1024, .i32⟩
  | .hbm, ⟨11, _⟩ => ⟨S1x1, .f32⟩
  | .hbm, ⟨12, _⟩ => ⟨S1x1, .f32⟩
  | .local _ .vmem, ⟨0, _⟩ => ⟨S8x256x64, .f32⟩
  | .local _ .vmem, ⟨1, _⟩ => ⟨S8x256x64, .f32⟩
  | .local _ .vmem, ⟨2, _⟩ => ⟨S8x256, .f32⟩
  | .local _ .vmem, ⟨3, _⟩ => ⟨S8x256, .f32⟩
  | .local _ .vmem, ⟨4, _⟩ => ⟨S1024x64, .f32⟩
  | .local _ .vmem, ⟨5, _⟩ => ⟨S1024x1, .f32⟩
  | .local _ .vmem, ⟨6, _⟩ => ⟨S8x256x64, .f32⟩
  | .local _ .vmem, ⟨7, _⟩ => ⟨S8x256x64, .f32⟩
  | .local _ .vmem, ⟨8, _⟩ => ⟨S8x256, .i32⟩
  | .local _ .vmem, ⟨9, _⟩ => ⟨S8x256, .i32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1024x128, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32 : BitVec 32 := 3#32
  let v85 : BitVec 1 := Scalar.cmpi .eq arg0 c3_i32
  let arg1 : BitVec 32 := BitVec.ofNat 32 (i 1).val
  let c3_i32_30 : BitVec 32 := 3#32
  let v86 : BitVec 1 := Scalar.cmpi .eq arg1 c3_i32_30
  let v87 : BitVec 1 := Scalar.andi v85 v86
  let v88 : BitVec 32 := Scalar.extui v87
  let c0_i32_31 : BitVec 32 := 0#32
  let v89 : BitVec 1 := Scalar.cmpi .ne v88 c0_i32_31
  v89

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S32x1024x64 : Shape := ⟨3, ![32, 1024, 64]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1 : Shape := ⟨1, ![1]⟩
abbrev S1x1 : Shape := ⟨2, ![1, 1]⟩
abbrev S32x1024 : Shape := ⟨2, ![32, 1024]⟩

abbrev nBuf : Space → Nat
  | .hbm => 99
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S64x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S1, .i32⟩
  | .hbm, ⟨34, _⟩ => ⟨S_, .i32⟩
  | .hbm, ⟨35, _⟩ => ⟨S32768x1, .i32⟩
  | .hbm, ⟨36, _⟩ => ⟨S32768x1, .i1⟩
  | .hbm, ⟨37, _⟩ => ⟨S1x1, .i32⟩
  | .hbm, ⟨38, _⟩ => ⟨S32768x1, .i32⟩
  | .hbm, ⟨39, _⟩ => ⟨S32768x1, .i1⟩
  | .hbm, ⟨40, _⟩ => ⟨S32768x1, .i1⟩
  | .hbm, ⟨41, _⟩ => ⟨S_, .i1⟩
  | .hbm, ⟨42, _⟩ => ⟨S32768, .i1⟩
  | .hbm, ⟨43, _⟩ => ⟨S32768x64, .f32⟩
  | .hbm, ⟨44, _⟩ => ⟨S32768x64, .i1⟩
  | .hbm, ⟨45, _⟩ => ⟨S_, .f32⟩
  | .hbm, ⟨46, _⟩ => ⟨S32768x64, .f32⟩
  | .hbm, ⟨47, _⟩ => ⟨S32768x64, .f32⟩
  | .hbm, ⟨48, _⟩ => ⟨S32x1024x64, .f32⟩
  | .hbm, ⟨49, _⟩ => ⟨S32x1024x64, .f32⟩
  | .hbm, ⟨50, _⟩ => ⟨S32x1024x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32x1024x64, .f32⟩
  | .hbm, ⟨56, _⟩ => ⟨S32x1024x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32x1024x64, .f32⟩
  | .hbm, ⟨62, _⟩ => ⟨S32x1024x64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S1024, .i32⟩
  | .hbm, ⟨68, _⟩ => ⟨S_, .i32⟩
  | .hbm, ⟨69, _⟩ => ⟨S_, .i32⟩
  | .hbm, ⟨70, _⟩ => ⟨S32768, .i32⟩
  | .hbm, ⟨71, _⟩ => ⟨S32768, .i32⟩
  | .hbm, ⟨72, _⟩ => ⟨S_, .i32⟩
  | .hbm, ⟨73, _⟩ => ⟨S32768, .i32⟩
  | .hbm, ⟨74, _⟩ => ⟨S32768, .i1⟩
  | .hbm, ⟨75, _⟩ => ⟨S_, .i32⟩
  | .hbm, ⟨76, _⟩ => ⟨S32768, .i32⟩
  | .hbm, ⟨77, _⟩ => ⟨S32768, .i32⟩
  | .hbm, ⟨78, _⟩ => ⟨S32768, .i32⟩
  | .hbm, ⟨79, _⟩ => ⟨S32768x1, .i32⟩
  | .hbm, ⟨80, _⟩ => ⟨S_, .i32⟩
  | .hbm, ⟨81, _⟩ => ⟨S32768, .i32⟩
  | .hbm, ⟨82, _⟩ => ⟨S1024, .i32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S32x1024, .i32⟩
  | .hbm, ⟨97, _⟩ => ⟨S1x1, .f32⟩
  | .hbm, ⟨98, _⟩ => ⟨S1x1, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_c : Ref sig .tc := ⟨.hbm, 66, rfl⟩
abbrev main_v30 : Ref sig .tc := ⟨.hbm, 67, rfl⟩
abbrev main_c_7 : Ref sig .tc := ⟨.hbm, 68, rfl⟩
abbrev main_call2_v0 : Ref sig .tc := ⟨.hbm, 69, rfl⟩
abbrev main_call2_v1 : Ref sig .tc := ⟨.hbm, 70, rfl⟩
abbrev main_v31 : Ref sig .tc := ⟨.hbm, 71, rfl⟩
abbrev main_c_8 : Ref sig .tc := ⟨.hbm, 72, rfl⟩
abbrev main_v32 : Ref sig .tc := ⟨.hbm, 73, rfl⟩
abbrev main_v33 : Ref sig .tc := ⟨.hbm, 74, rfl⟩
abbrev main_c_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_10 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_11 : Ref sig .tc := ⟨.hbm, 84, rfl⟩
abbrev main_v41 : Ref sig .tc := ⟨.hbm, 85, rfl⟩
abbrev main_v42 : Ref sig .tc := ⟨.hbm, 86, rfl⟩
abbrev main_cst_12 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_13 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩

abbrev nD : Nat := 1
abbrev τ : Topo := Topo.v7x

variable {F : FTy → Type} [FloatOps F]
-- ==== Proof.Kern.Outs.lean ====
/- What the kernel body leaves, at each grid point, in its output blocks and in its two accumulators, as its
   payloads over the point's input blocks and over what the point before left. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Outs

open Cert.KernelIdeal Cert.KernelIdeal.Gen

variable (m : (ℓ : Loc nD τ sig) → Buf (Elt Ideal) ℓ)

/-- The quantised block at every point: the one-hot matrix contracted with the codebook. -/
theorem zq (c : Dev nD) (t : Fin cfg0.N) :
    (outsAt0 m c t.val t.isLt).1
      = k0_pay9 (F := Ideal) (iblk m c 0 t) (iblk m c 1 t) (iblk m c 2 t) (iblk m c 3 t) (iblk m c 2 t) := by
  by_cases h0 : t.val % 16 = 0
  · have h1 : ¬ t.val % 16 = 15 := by omega
    rw [outsAt0_A m c t h0 h1]; frame_out
  · by_cases h1 : t.val % 16 = 15
    · rw [outsAt0_C m c t h0 h1]; frame_out
    · rw [outsAt0_B m c t h0 h1]; frame_out

/-- The block of indices at every point. -/
theorem idx (c : Dev nD) (t : Fin cfg0.N) :
    (outsAt0 m c t.val t.isLt).2.1
      = k0_pay7 (F := Ideal) (iblk m c 0 t) (iblk m c 1 t) (iblk m c 2 t) (iblk m c 3 t) := by
  by_cases h0 : t.val % 16 = 0
  · have h1 : ¬ t.val % 16 = 15 := by omega
    rw [outsAt0_A m c t h0 h1]; frame_out
  · by_cases h1 : t.val % 16 = 15
    · rw [outsAt0_C m c t h0 h1]; frame_out
    · rw [outsAt0_B m c t h0 h1]; frame_out

/-- The loss accumulator after the first point: the point's sum over a zero. -/
theorem acc_first (c : Dev nD) (t : Fin cfg0.N) (h0 : t.val % 16 = 0) :
    (outsAt0 m c t.val t.isLt).2.2.2.2.1
      = k0_pay12 (F := Ideal) (k0_pay5 (F := Ideal) (iblk m c 0 t) (iblk m c 1 t) (iblk m c 2 t) (iblk m c 3 t)) (k0_pay10 (F := Ideal)) := by
  have h1 : ¬ t.val % 16 = 15 := by omega
  rw [outsAt0_A m c t h0 h1]; frame_out

/-- The loss accumulator after a later point: the point's sum over what was there. -/
theorem acc_next (c : Dev nD) (t : Fin cfg0.N) (h0 : ¬ t.val % 16 = 0) :
    (outsAt0 m c t.val t.isLt).2.2.2.2.1
      = k0_pay12 (F := Ideal) (k0_pay5 (F := Ideal) (iblk m c 0 t) (iblk m c 1 t) (iblk m c 2 t) (iblk m c 3 t))
          (outsAt0 m c (t.val - 1) (lt_of_le_of_lt (Nat.sub_le _ _) t.isLt)).2.2.2.2.1 := by
  by_cases h1 : t.val % 16 = 15
  · rw [outsAt0_C m c t h0 h1]; frame_out; exact congrArg (k0_pay12 _) (Memref.IsWhole.read_unread (Memref.isWhole_whole _) _)
  · rw [outsAt0_B m c t h0 h1]; frame_out; exact congrArg (k0_pay12 _) (Memref.IsWhole.read_unread (Memref.isWhole_whole _) _)

/-- The count accumulator after the first point. -/
theorem cnt_first (c : Dev nD) (t : Fin cfg0.N) (h0 : t.val % 16 = 0) :
    (outsAt0 m c t.val t.isLt).2.2.2.2.2
      = k0_pay1 (F := Ideal) (k0_pay13 (F := Ideal) (k0_pay8 (F := Ideal) (iblk m c 0 t) (iblk m c 1 t) (iblk m c 2 t) (iblk m c 3 t)) (k0_pay11 (F := Ideal))) := by
  have h1 : ¬ t.val % 16 = 15 := by omega
  rw [outsAt0_A m c t h0 h1]; frame_out

/-- The count accumulator after a later point. -/
theorem cnt_next (c : Dev nD) (t : Fin cfg0.N) (h0 : ¬ t.val % 16 = 0) :
    (outsAt0 m c t.val t.isLt).2.2.2.2.2
      = k0_pay1 (F := Ideal) (k0_pay13 (F := Ideal) (k0_pay8 (F := Ideal) (iblk m c 0 t) (iblk m c 1 t) (iblk m c 2 t) (iblk m c 3 t))
          (outsAt0 m c (t.val - 1) (lt_of_le_of_lt (Nat.sub_le _ _) t.isLt)).2.2.2.2.2) := by
  by_cases h1 : t.val % 16 = 15
  · rw [outsAt0_C m c t h0 h1]; frame_out; exact congrArg (fun v => k0_pay1 (k0_pay13 _ v)) (Memref.IsWhole.read_unread (Memref.isWhole_whole _) _)
  · rw [outsAt0_B m c t h0 h1]; frame_out; exact congrArg (fun v => k0_pay1 (k0_pay13 _ v)) (Memref.IsWhole.read_unread (Memref.isWhole_whole _) _)

/-- The loss at the last point, from the accumulator as that point leaves it. -/
theorem loss (c : Dev nD) (t : Fin cfg0.N) (h1 : t.val % 16 = 15) :
    (outsAt0 m c t.val t.isLt).2.2.1 = k0_pay2 (F := Ideal) (outsAt0 m c t.val t.isLt).2.2.2.2.1 := by
  have h0 : ¬ t.val % 16 = 0 := by omega
  rw [acc_next m c t h0, outsAt0_C m c t h0 h1]; frame_out; exact congrArg (fun v => k0_pay2 (k0_pay12 _ v)) (Memref.IsWhole.read_unread (Memref.isWhole_whole _) _)

/-- The perplexity at the last point, from the counts as that point leaves them. -/
theorem perp (c : Dev nD) (t : Fin cfg0.N) (h1 : t.val % 16 = 15) :
    (outsAt0 m c t.val t.isLt).2.2.2.1 = k0_pay3 (F := Ideal) (outsAt0 m c t.val t.isLt).2.2.2.2.2 := by
  have h0 : ¬ t.val % 16 = 0 := by omega
  rw [cnt_next m c t h0, outsAt0_C m c t h0 h1]; frame_out; exact congrArg (fun v => k0_pay3 (k0_pay1 (k0_pay13 _ v))) (Memref.IsWhole.read_unread (Memref.isWhole_whole _) _)

end Cert.KernelIdeal.Outs

end
-- ==== Proof.Argmin.lean ====
/- The first index at which a finite family of extended reals is least, and the two ways of computing it that the programs
   use: a fold over (value, index) pairs, and the least index among those attaining the minimum. -/
module

public import Idealize.ShloMosaic.PureOps.Ideal.Laws
public import Idealize.ShloMosaic.Lib.ValueIdx

@[expose] public section

noncomputable section

namespace Cert.Argmin

open Idealize.ShloMosaic

/-- `k` attains the least value of `f`, and no smaller index does. -/
def IsFirst {n : ℕ} (f : Fin n → EReal) (k : Fin n) : Prop := (∀ j, f k ≤ f j) ∧ ∀ j, f j ≤ f k → k ≤ j

/-- A nonempty finite family has a first least entry. -/
theorem exists_isFirst {n : ℕ} (f : Fin (n + 1) → EReal) : ∃ k, IsFirst f k := by
  classical
  obtain ⟨k0, -, hk0⟩ := Finset.exists_min_image Finset.univ f ⟨0, Finset.mem_univ _⟩
  have hne : (Finset.univ.filter fun k => ∀ j, f k ≤ f j).Nonempty :=
    ⟨k0, Finset.mem_filter.2 ⟨Finset.mem_univ _, fun j => hk0 j (Finset.mem_univ _)⟩⟩
  refine ⟨(Finset.univ.filter fun k => ∀ j, f k ≤ f j).min' hne, ?_, fun j hj => ?_⟩
  · exact (Finset.mem_filter.1 (Finset.min'_mem _ hne)).2
  · refine Finset.min'_le _ _ (Finset.mem_filter.2 ⟨Finset.mem_univ _, fun i => ?_⟩)
    exact hj.trans ((Finset.mem_filter.1 (Finset.min'_mem _ hne)).2 i)

/-- There is only one first least entry. -/
theorem IsFirst.unique {n : ℕ} {f : Fin n → EReal} {k k' : Fin n} (h : IsFirst f k) (h' : IsFirst f k') : k = k' :=
  le_antisymm (h.2 k' (h'.1 k)) (h'.2 k (h.1 k'))

/-- The first index at which `f` is least. -/
def first (f : Fin 1024 → EReal) : Fin 1024 := (exists_isFirst f).choose

/-- `first f` is the first index at which `f` is least. -/
theorem first_spec (f : Fin 1024 → EReal) : IsFirst f (first f) := (exists_isFirst f).choose_spec

/-- The fold of the minimum from the top value is the value at the first least index. -/
theorem fold_min_eq (f : Fin 1024 → EReal) :
    (Finset.univ : Finset (Fin 1024)).fold min ⊤ f = f (first f) := by
  apply le_antisymm
  · exact ((Finset.le_fold_min _).1 le_rfl).2 _ (Finset.mem_univ _)
  · exact (Finset.le_fold_min _).2 ⟨le_top, fun j _ => (first_spec f).1 j⟩

/-- An index below 1024 as a 32-bit word has itself for its signed value. -/
theorem toInt_ofNat (k : Fin 1024) : (BitVec.ofNat 32 k.val).toInt = (k.val : ℤ) := by
  have := k.isLt
  rw [BitVec.toInt_ofNat']
  norm_num
  rw [Int.bmod_eq_of_le] <;> omega

/-- The signed minimum of two words, in signed values. -/
theorem toInt_minsi (a b : BitVec 32) : (IntOp.minsi a b).toInt = min a.toInt b.toInt := by
  unfold IntOp.minsi
  by_cases h : BitVec.slt a b = true
  · rw [if_pos h]; rw [BitVec.slt_iff_toInt_lt] at h; exact (min_eq_left h.le).symm
  · rw [if_neg h]; rw [BitVec.slt_iff_toInt_lt] at h; exact (min_eq_right (not_lt.1 h)).symm

/-- The signed minimum, over the indices, of "the index where the value is the least one, else 1024" is the first index at
    which the value is least. -/
theorem fold_minsi_eq (f : Fin 1024 → EReal) (g : Fin 1024 → BitVec 32)
    (hg : ∀ k, g k = if f k = f (first f) then BitVec.ofNat 32 k.val else 1024#32)
    [Std.Commutative (IntOp.minsi (w := 32))] [Std.Associative (IntOp.minsi (w := 32))] :
    (Finset.univ : Finset (Fin 1024)).fold IntOp.minsi 2147483647#32 g = BitVec.ofNat 32 (first f).val := by
  apply BitVec.eq_of_toInt_eq
  rw [toInt_ofNat, ← Finset.fold_hom (op' := min) (m := BitVec.toInt) toInt_minsi]
  have hgi : ∀ k, (g k).toInt = if f k = f (first f) then (k.val : ℤ) else 1024 := by
    intro k; rw [hg]; split
    · exact toInt_ofNat k
    · decide
  apply le_antisymm
  · have := ((Finset.le_fold_min ((Finset.univ : Finset (Fin 1024)).fold min (2147483647#32 : BitVec 32).toInt fun x => (g x).toInt)).1 le_rfl).2
      (first f) (Finset.mem_univ _)
    rwa [hgi, if_pos rfl] at this
  · refine (Finset.le_fold_min _).2 ⟨?_, fun k _ => ?_⟩
    · have := (first f).isLt
      have e : (2147483647#32 : BitVec 32).toInt = 2147483647 := by decide
      rw [e]; omega
    · rw [hgi]; split
      · next h => exact_mod_cast (first_spec f).2 k h.le
      · have := (first f).isLt; omega

/-- The pairs' order: by value, then by the signed value of the index. -/
def PairLe (a b : EReal × BitVec 32) : Prop := a.1 < b.1 ∨ (a.1 = b.1 ∧ a.2.toInt ≤ b.2.toInt)

/-- A pair is at most itself. -/
theorem PairLe.refl (a : EReal × BitVec 32) : PairLe a a := .inr ⟨rfl, le_rfl⟩

/-- Being at most passes along a chain of pairs. -/
theorem PairLe.trans {a b c : EReal × BitVec 32} (h : PairLe a b) (h' : PairLe b c) : PairLe a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A fold by an operation that returns one of its two arguments, and one below both, ends at the start or at an entry of the
    list, and below all of them. -/
theorem foldl_least (op : EReal × BitVec 32 → EReal × BitVec 32 → EReal × BitVec 32)
    (hmem : ∀ a b, op a b = a ∨ op a b = b) (hl : ∀ a b, PairLe (op a b) a) (hr : ∀ a b, PairLe (op a b) b)
    (L : List (EReal × BitVec 32)) (a : EReal × BitVec 32) :
    (L.foldl op a = a ∨ L.foldl op a ∈ L) ∧ PairLe (L.foldl op a) a ∧ ∀ p ∈ L, PairLe (L.foldl op a) p := by
  induction L generalizing a with
  | nil => exact ⟨.inl rfl, PairLe.refl _, fun p hp => absurd hp List.not_mem_nil⟩
  | cons b L ih =>
    obtain ⟨h1, h2, h3⟩ := ih (op a b)
    rw [List.foldl_cons]
    refine ⟨?_, h2.trans (hl a b), fun p hp => ?_⟩
    · rcases h1 with h1 | h1
      · rcases hmem a b with h | h
        · exact .inl (h1.trans h)
        · exact .inr (by rw [h1, h]; exact List.mem_cons_self)
      · exact .inr (List.mem_cons_of_mem _ h1)
    · rcases List.mem_cons.1 hp with rfl | hp
      · exact h2.trans (hr a p)
      · exact h3 p hp

/-- Such a fold from (⊤, 0) over a list holding exactly the pairs (value, index) ends at the first least index. -/
theorem foldl_first (op : EReal × BitVec 32 → EReal × BitVec 32 → EReal × BitVec 32)
    (hmem : ∀ a b, op a b = a ∨ op a b = b) (hl : ∀ a b, PairLe (op a b) a) (hr : ∀ a b, PairLe (op a b) b)
    (f : Fin 1024 → EReal) (L : List (EReal × BitVec 32))
    (hL : ∀ p, p ∈ L ↔ ∃ k : Fin 1024, p = (f k, BitVec.ofNat 32 k.val)) :
    (L.foldl op (⊤, 0#32)).2 = BitVec.ofNat 32 (first f).val := by
  obtain ⟨h1, h2, h3⟩ := foldl_least op hmem hl hr L (⊤, 0#32)
  generalize L.foldl op (⊤, 0#32) = r at h1 h2 h3
  have h3' : ∀ k : Fin 1024, PairLe r (f k, BitVec.ofNat 32 k.val) := fun k => h3 _ ((hL _).2 ⟨k, rfl⟩)
  have hr : ∃ k : Fin 1024, r = (f k, BitVec.ofNat 32 k.val) := by
    rcases h1 with h1 | h1
    · refine ⟨0, ?_⟩
      rcases h3' 0 with h | ⟨h, hi⟩
      · rw [h1] at h; exact absurd h not_top_lt
      · rw [h1] at h ⊢; exact Prod.ext h rfl
    · exact (hL _).1 h1
  obtain ⟨k, rfl⟩ := hr
  have hk : IsFirst f k := by
    constructor
    · intro j; rcases h3' j with h | ⟨h, -⟩
      · exact h.le
      · exact h.le
    · intro j hj
      rcases h3' j with h | ⟨-, hi⟩
      · exact absurd h (not_lt.2 hj)
      · simp only [toInt_ofNat] at hi; exact_mod_cast hi
  rw [hk.unique (first_spec f)]

end Cert.Argmin

end
-- ==== Proof.Spec.lean ====
/- The mathematics both programs compute, over the extended reals: squared distances from each vector to each codebook entry,
   the nearest entry, how often each entry is nearest, and the two statistics. `X b t d` is coordinate `d` of the vector at
   place `(b, t)`, `C k d` that of codebook entry `k`. -/
module

public import proofs.«01_k».proof.Proof.Argmin

@[expose] public section

noncomputable section

namespace Cert.Spec

open Idealize.ShloMosaic

variable (X : Fin 32 → Fin 1024 → Fin 64 → EReal) (C : Fin 1024 → Fin 64 → EReal)

/-- The squared distance, expanded: `|x|² + |e|² - 2 x·e`. -/
def dist (b : Fin 32) (t : Fin 1024) (k : Fin 1024) : EReal :=
  ((∑ d, X b t d * X b t d) + ∑ d, C k d * C k d) - 2 * ∑ d, X b t d * C k d

/-- The first codebook entry nearest to the vector at `(b, t)`. -/
def best (b : Fin 32) (t : Fin 1024) : Fin 1024 := Argmin.first (dist X C b t)

/-- How many vectors have entry `k` as their nearest. -/
def count (k : Fin 1024) : EReal := ∑ b : Fin 32, ∑ t : Fin 1024, if best X C b t = k then 1 else 0

/-- The least squared distances, summed over all the vectors. -/
def total : EReal := ∑ b : Fin 32, ∑ t : Fin 1024, dist X C b t (best X C b t)

/-- The loss: 1.25 times the sum, over the number of scalars. -/
def loss : EReal := Ideal.div (Ideal.ofBits .f32 0x3FA00000#32 * total X C) (Ideal.ofBits .f32 0x4A000000#32)

/-- The frequency of entry `k`. -/
def freq (k : Fin 1024) : EReal := Ideal.div (count X C k) (Ideal.ofBits .f32 0x47000000#32)

/-- The exponential of the entropy of the frequencies. -/
def perplexity : EReal :=
  Ideal.exp (- ∑ k : Fin 1024, freq X C k * Ideal.log (freq X C k + Ideal.ofBits .f32 0x2B8CBCCC#32))

end Cert.Spec

end
-- ==== Proof.Consts.lean ====
/- The values of the float words the two programs write as literals. -/
module

public import Idealize.ShloMosaic.PureOps.Ideal.Laws

@[expose] public section

noncomputable section

namespace Cert.Consts

open Idealize.ShloMosaic

/-- The word of 2.0. -/
theorem two : Ideal.ofBits .f32 0x40000000#32 = (2 : EReal) := by
  simp [Ideal.ofBits, Ideal.ieee, -EReal.coe_mul]; norm_num; rfl

/-- The word of 1.25. -/
theorem fiveQuarters : Ideal.ofBits .f32 0x3FA00000#32 = ((5 / 4 : ℝ) : EReal) := by
  simp [Ideal.ofBits, Ideal.ieee, -EReal.coe_mul]; norm_num

/-- The word of 0.25. -/
theorem quarter : Ideal.ofBits .f32 0x3E800000#32 = ((1 / 4 : ℝ) : EReal) := by
  simp [Ideal.ofBits, Ideal.ieee, -EReal.coe_mul]; norm_num

/-- The word of 2097152.0, the number of scalars. -/
theorem scalars : Ideal.ofBits .f32 0x4A000000#32 = ((2097152 : ℝ) : EReal) := by
  simp [Ideal.ofBits, Ideal.ieee, -EReal.coe_mul]; norm_num

/-- The word of positive infinity. -/
theorem infinity : Ideal.ofBits .f32 0x7F800000#32 = (⊤ : EReal) := by
  simp [Ideal.ofBits, Ideal.ieee]

/-- The word of zero. -/
theorem zero : Ideal.ofBits .f32 0x00000000#32 = (0 : EReal) := by
  simp [Ideal.ofBits, Ideal.ieee]

end Cert.Consts

end
-- ==== Proof.Kern.Dist.lean ====
/- What one grid point of the kernel computes for each of the 2048 vectors of its block: the distances to the codebook, the least
   of them, the index of the nearest entry, and the one-hot column. -/
module

public import proofs.«01_k».proof.Proof.Kern.Outs
public import proofs.«01_k».proof.Proof.Spec
public import proofs.«01_k».proof.Proof.Consts

@[expose] public section

set_option maxRecDepth 16384

noncomputable section

open Idealize.ShloMosaic Idealize.ShloMosaic.TcCoe Idealize.SL.Sem

namespace Cert.KernelIdeal.Dist

open Cert.KernelIdeal Cert.KernelIdeal.Gen

variable (m : (ℓ : Loc nD τ sig) → Buf (Elt Ideal) ℓ)

/-- The vectors, read from the first argument. -/
def X (c : Dev nD) : Fin 32 → Fin 1024 → Fin 64 → EReal := fun b t d => m ((c : Thread nD τ).loc main_arg0) (ix3 b t d)

/-- The codebook, read from the second argument. -/
def C (c : Dev nD) : Fin 1024 → Fin 64 → EReal := fun k d => m ((c : Thread nD τ).loc main_arg1) (ix2 k d)

/-- Point `t` takes block `(t / 4, t % 4)` of the vectors and of their squared norms, and the whole codebook. -/
theorem index : ∀ t : Fin cfg0.N, win0_0.index t = ![t.val / 4, t.val % 4, 0] ∧ win0_1.index t = ![t.val / 4, t.val % 4]
    ∧ win0_2.index t = ![0, 0] ∧ win0_3.index t = ![0, 0] :=
  (by decide +kernel : ∀ t : Fin grid0.N, _)

/-- There are sixteen points. -/
theorem lt16 (t : Fin cfg0.N) : t.val < 16 := lt_of_lt_of_eq t.isLt (show cfg0.N = 16 from N_0)

/-- The first coordinate of row `r` of point `t`'s block. -/
def rowB (t : Fin cfg0.N) (r : Fin 8) : Fin 32 := ⟨8 * (t.val / 4) + r.val, by have := lt16 t; omega⟩

/-- The second coordinate of column `q` of point `t`'s block. -/
def colT (t : Fin cfg0.N) (q : Fin 256) : Fin 1024 := ⟨256 * (t.val % 4) + q.val, by omega⟩

/-- The row of a block's flat position. -/
def qr (q : Fin 2048) : Fin 8 := ⟨q.val / 256, by omega⟩

/-- The column of a block's flat position. -/
def qc (q : Fin 2048) : Fin 256 := ⟨q.val % 256, by omega⟩

/-- The block of vectors, read at a place. -/
theorem blk0 (c : Dev nD) (t : Fin cfg0.N) (r : Fin 8) (q : Fin 256) (d : Fin 64) :
    iblk m c 0 t (ix3 r q d) = X m c (rowB t r) (colT t q) d := by
  unfold X rowB colT
  blk_ext [iblk, V, index t]

/-- The codebook block, read at a place. -/
theorem blk2 (c : Dev nD) (t : Fin cfg0.N) (k : Fin 1024) (d : Fin 64) : iblk m c 2 t (ix2 k d) = C m c k d := by
  unfold C
  blk_ext [iblk, V, index t]

/-- The block of squared norms of the vectors, read at a place. -/
theorem blk1 (c : Dev nD) (t : Fin cfg0.N) (r : Fin 8) (q : Fin 256) :
    iblk m c 1 t (ix2 r q) = (∑ d, X m c (rowB t r) (colT t q) d * X m c (rowB t r) (colT t q) d : EReal) := by
  unfold X rowB colT
  blk_simp [iblk, index t]
  entry_read
  pointwise []
  blk_point [index t]

/-- The block of squared norms of the codebook entries, read at a place. -/
theorem blk3 (c : Dev nD) (t : Fin cfg0.N) (k : Fin 1024) :
    iblk m c 3 t (ix2 k 0) = (∑ d, C m c k d * C m c k d : EReal) := by
  unfold C
  blk_simp [iblk, index t]
  entry_read
  pointwise []
  blk_point [index t]

/-- The distance payload over any blocks, read at a place. -/
theorem pay4_at (v0 : Vec Ideal S8x256x64 .f32) (v2 : Vec Ideal S8x256 .f32) (v5 : Vec Ideal S1024x64 .f32)
    (v7 : Vec Ideal S1024x1 .f32) (k : Fin 1024) (q : Fin 2048) :
    k0_pay4 (F := Ideal) v0 v2 v5 v7 (ix2 k q)
      = ((v2 (ix2 (qr q) (qc q)) + v7 (ix2 k 0)) - 2 * ∑ d : Fin 64, v5 (ix2 k d) * v0 (ix3 (qr q) (qc q) d) : EReal) := by
  pointwise [k0_pay4]
  rw [Consts.two]
  rfl

/-- Point `t`'s distances are the distances. -/
theorem dist_at (c : Dev nD) (t : Fin cfg0.N) (k : Fin 1024) (q : Fin 2048) :
    k0_pay4 (F := Ideal) (iblk m c 0 t) (iblk m c 1 t) (iblk m c 2 t) (iblk m c 3 t) (ix2 k q)
      = Spec.dist (X m c) (C m c) (rowB t (qr q)) (colT t (qc q)) k := by
  refine (pay4_at _ _ _ _ k q).trans ?_
  unfold Spec.dist
  rw [blk1 m c t, blk3 m c t]
  congr 2
  refine Finset.sum_congr rfl fun d _ => ?_
  rw [blk2 m c t, blk0 m c t, mul_comm]

end Cert.KernelIdeal.Dist

end
-- ==== Proof.Kern.Pick.lean ====
/- The payloads of one grid point, read at a place in terms of the distance payload: the least distance of a column, the index of
   the first entry attaining it, the one-hot column and the row it selects. -/
module

public import proofs.«01_k».proof.Proof.Kern.Dist

@[expose] public section

set_option maxRecDepth 16384

noncomputable section

open Idealize.ShloMosaic Idealize.ShloMosaic.TcCoe Idealize.SL.Sem

namespace Cert.KernelIdeal.Pick

open Cert.KernelIdeal Cert.KernelIdeal.Gen Cert.KernelIdeal.Dist

variable (v0 : Vec Ideal S8x256x64 .f32) (v2 : Vec Ideal S8x256 .f32) (v5 : Vec Ideal S1024x64 .f32)
  (v7 : Vec Ideal S1024x1 .f32)

/-- The distances of column `q`. -/
def col (q : Fin 2048) : Fin 1024 → EReal := fun k => k0_pay4 (F := Ideal) v0 v2 v5 v7 (ix2 k q)

/-- The reduced minimum of column `q` is the distance at the first nearest entry. -/
theorem pay5_at (q : Fin 2048) :
    k0_pay5 (F := Ideal) v0 v2 v5 v7 (ix2 0 q) = col v0 v2 v5 v7 q (Argmin.first (col v0 v2 v5 v7 q)) := by
  refine Eq.trans ?_ (Argmin.fold_min_eq (col v0 v2 v5 v7 q))
  pointwise [k0_pay5]
  rw [Consts.infinity]
  rfl

/-- The reduced index of column `q` is the first nearest entry. -/
theorem pay6_at (q : Fin 2048) :
    k0_pay6 (F := Ideal) v0 v2 v5 v7 (ix2 0 q) = BitVec.ofNat 32 (Argmin.first (col v0 v2 v5 v7 q)).val := by
  have h5 := pay5_at v0 v2 v5 v7 q
  pointwise [k0_pay6]
  refine Argmin.fold_minsi_eq (col v0 v2 v5 v7 q) _ fun k => ?_
  show (if _ then _ else _) = _
  rw [h5]
  rfl

/-- The one-hot column. -/
theorem pay8_at (k : Fin 1024) (q : Fin 2048) :
    k0_pay8 (F := Ideal) v0 v2 v5 v7 (ix2 k q) = if Argmin.first (col v0 v2 v5 v7 q) = k then 1 else 0 := by
  have h6 := pay6_at v0 v2 v5 v7 q
  pointwise [k0_pay8, h6]
  have hk := k.isLt
  have hf := (Argmin.first (col v0 v2 v5 v7 q)).isLt
  generalize Argmin.first (col v0 v2 v5 v7 q) = f at *
  by_cases h : f = k
  · subst h
    rw [if_pos rfl]
    simp [IntOp.cmpi, FloatOps.sitofp]
  · have hne : BitVec.ofNat 32 k.val ≠ BitVec.ofNat 32 f.val := fun e => h (by
      have := congrArg BitVec.toNat e
      simp only [BitVec.toNat_ofNat] at this
      apply Fin.ext; omega)
    rw [if_neg h]
    simp [IntOp.cmpi, FloatOps.sitofp, beq_eq_false_iff_ne.mpr hne]

/-- The one-hot product selects the nearest entry's row. -/
theorem pay9_at (r : Fin 8) (q : Fin 256) (d : Fin 64) (v30 : Vec Ideal S1024x64 .f32) :
    k0_pay9 (F := Ideal) v0 v2 v5 v7 v30 (ix3 r q d)
      = v30 (ix2 (Argmin.first (col v0 v2 v5 v7 ⟨r.val * 256 + q.val, by omega⟩)) d) := by
  have h8 := pay8_at v0 v2 v5 v7
  pointwise [k0_pay9, h8]
  simp only [ite_mul, one_mul, zero_mul]
  exact Finset.sum_ite_eq _ _ _ |>.trans (if_pos (Finset.mem_univ _))

/-- The block of indices. -/
theorem pay7_at (r : Fin 8) (q : Fin 256) :
    k0_pay7 (F := Ideal) v0 v2 v5 v7 (ix2 r q)
      = BitVec.ofNat 32 (Argmin.first (col v0 v2 v5 v7 ⟨r.val * 256 + q.val, by omega⟩)).val := by
  have h6 := pay6_at v0 v2 v5 v7
  pointwise [k0_pay7, h6]

/-- The block's least distances, added to the running sum. -/
theorem pay12_at (v16 : FVec Ideal S1x2048 .f32) (a : Vec Ideal S1x1 .f32) :
    k0_pay12 (F := Ideal) v16 a (ix2 0 0) = (a (ix2 0 0) + ∑ q : Fin 2048, v16 (ix2 0 q) : EReal) := by
  pointwise [k0_pay12]
  simp only [Fin.sum_univ_one]

/-- The block's one-hot columns, added lane by lane to the running counts. -/
theorem pay13_at (v29 : FVec Ideal S1024x2048 .f32) (a : Vec Ideal S1024x128 .f32) (k : Fin 1024) (l : Fin 128) :
    k0_pay13 (F := Ideal) v29 a (ix2 k l)
      = (a (ix2 k l) + ∑ s : Fin 16, v29 (ix2 k ⟨s.val * 128 + l.val, by omega⟩) : EReal) := by
  pointwise [k0_pay13]
  refine congrArg _ ?_
  simp only [Fin.sum_univ_succ, Fin.sum_univ_zero, Fin.val_zero, Fin.val_succ, add_zero, ← add_assoc, zero_mul, zero_add, Nat.reduceAdd, Nat.reduceMul, one_mul]

/-- The stored counts are the added counts. -/
theorem pay1_at (a : FVec Ideal S1024x128 .f32) : k0_pay1 (F := Ideal) a = a := by
  funext i
  pointwise [k0_pay1]

/-- The running sum starts at zero. -/
theorem pay10_at (i : S1x1.Idx) : k0_pay10 (F := Ideal) i = (0 : EReal) := by
  pointwise [k0_pay10]

/-- The counts start at zero. -/
theorem pay11_at (i : S1024x128.Idx) : k0_pay11 (F := Ideal) i = (0 : EReal) := by
  pointwise [k0_pay11]

/-- The loss from the final sum. -/
theorem pay2_at (a : Vec Ideal S1x1 .f32) :
    k0_pay2 (F := Ideal) a (ix2 0 0)
      = Ideal.div (Ideal.ofBits .f32 0x3FA00000#32 * a (ix2 0 0)) (Ideal.ofBits .f32 0x4A000000#32) := by
  pointwise [k0_pay2]

/-- The perplexity from the final counts. -/
theorem pay3_at (a : Vec Ideal S1024x128 .f32) :
    k0_pay3 (F := Ideal) a (ix2 0 0)
      = Ideal.exp (- ∑ k : Fin 1024, Ideal.div (∑ l : Fin 128, a (ix2 k l)) (Ideal.ofBits .f32 0x47000000#32)
          * Ideal.log (Ideal.div (∑ l : Fin 128, a (ix2 k l)) (Ideal.ofBits .f32 0x47000000#32)
            + Ideal.ofBits .f32 0x2B8CBCCC#32) : EReal) := by
  pointwise [k0_pay3]
  rw [zero_sub]
  simp only [Finset.univ_unique, Finset.sum_singleton, Finset.sum_const, Finset.card_singleton, one_smul]

end Cert.KernelIdeal.Pick

end
-- ==== Proof.Kern.Accum.lean ====
/- The two running accumulators of the kernel: after the last point they hold the sums over every vector. -/
module

public import proofs.«01_k».proof.Proof.Kern.Pick

@[expose] public section

set_option maxRecDepth 16384

noncomputable section

open Idealize.ShloMosaic Idealize.ShloMosaic.TcCoe Idealize.SL.Sem

namespace Cert.KernelIdeal.Accum

open Cert.KernelIdeal Cert.KernelIdeal.Gen Cert.KernelIdeal.Dist

variable (m : (ℓ : Loc nD τ sig) → Buf (Elt Ideal) ℓ)

/-- The distances in column `q` of point `t` are those of the vector at that place. -/
theorem col_eq (c : Dev nD) (t : Fin cfg0.N) (q : Fin 2048) :
    Pick.col (iblk m c 0 t) (iblk m c 1 t) (iblk m c 2 t) (iblk m c 3 t) q
      = Spec.dist (X m c) (C m c) (rowB t (qr q)) (colT t (qc q)) :=
  funext fun k => dist_at m c t k q

/-- The least distance at place `(b, t)`. -/
def least (c : Dev nD) (b : Fin 32) (t : Fin 1024) : EReal :=
  Spec.dist (X m c) (C m c) b t (Spec.best (X m c) (C m c) b t)

/-- One where entry `k` is the nearest to the vector at `(b, t)`, zero elsewhere. -/
def hit (c : Dev nD) (k : Fin 1024) (b : Fin 32) (t : Fin 1024) : EReal :=
  if Spec.best (X m c) (C m c) b t = k then 1 else 0

/-- A function of the place, summed over what point `n` selects of it by positions of its block. -/
def at' (g : Fin 32 → Fin 1024 → EReal) (n : ℕ) (q : Fin 2048) : EReal :=
  if h : n < cfg0.N then g (rowB ⟨n, h⟩ (qr q)) (colT ⟨n, h⟩ (qc q)) else 0

/-- `at'` at a point of the grid. -/
theorem at'_pt (g : Fin 32 → Fin 1024 → EReal) (t : Fin cfg0.N) (q : Fin 2048) :
    at' g t.val q = g (rowB t (qr q)) (colT t (qc q)) := dif_pos t.isLt

/-- The least distances of a point's block. -/
theorem pay5_pt (c : Dev nD) (t : Fin cfg0.N) (q : Fin 2048) :
    k0_pay5 (F := Ideal) (iblk m c 0 t) (iblk m c 1 t) (iblk m c 2 t) (iblk m c 3 t) (ix2 0 q) = at' (least m c) t.val q := by
  refine (Pick.pay5_at _ _ _ _ q).trans ?_
  rw [col_eq m c t q, at'_pt]
  rfl

/-- The one-hot columns of a point's block. -/
theorem pay8_pt (c : Dev nD) (t : Fin cfg0.N) (k : Fin 1024) (q : Fin 2048) :
    k0_pay8 (F := Ideal) (iblk m c 0 t) (iblk m c 1 t) (iblk m c 2 t) (iblk m c 3 t) (ix2 k q) = at' (hit m c k) t.val q := by
  refine (Pick.pay8_at _ _ _ _ k q).trans ?_
  rw [col_eq m c t q, at'_pt]
  rfl

/-- After point `n` the loss accumulator holds the least distances of the points up to `n`. -/
theorem acc (c : Dev nD) (n : ℕ) (hn : n < cfg0.N) :
    ((outsAt0 m c n hn).2.2.2.2.1 (ix2 0 0) : EReal) = ∑ s ∈ Finset.range (n + 1), ∑ q : Fin 2048, at' (least m c) s q := by
  induction n with
  | zero =>
    rw [show outsAt0 m c 0 hn = outsAt0 m c (⟨0, hn⟩ : Fin cfg0.N).val (⟨0, hn⟩ : Fin cfg0.N).isLt from rfl,
      Outs.acc_first m c ⟨0, hn⟩ rfl]
    refine (Pick.pay12_at _ _).trans ?_
    rw [Pick.pay10_at, zero_add, Finset.sum_range_one]
    exact Finset.sum_congr rfl fun q _ => pay5_pt m c ⟨0, hn⟩ q
  | succ n ih =>
    have h16 := lt16 ⟨n + 1, hn⟩
    have h16' : n + 1 < 16 := h16
    rw [show outsAt0 m c (n + 1) hn = outsAt0 m c (⟨n + 1, hn⟩ : Fin cfg0.N).val (⟨n + 1, hn⟩ : Fin cfg0.N).isLt from rfl,
      Outs.acc_next m c ⟨n + 1, hn⟩ (show ¬ (n + 1) % 16 = 0 by omega)]
    refine (Pick.pay12_at _ _).trans ?_
    rw [Finset.sum_range_succ]
    exact Ideal.add_congr (ih (Nat.lt_of_succ_lt hn)) (Finset.sum_congr rfl fun q _ => pay5_pt m c ⟨n + 1, hn⟩ q)

/-- After point `n` lane `l` of entry `k` holds the hits of the points up to `n` at the positions of that lane. -/
theorem cnt (c : Dev nD) (k : Fin 1024) (l : Fin 128) (n : ℕ) (hn : n < cfg0.N) :
    ((outsAt0 m c n hn).2.2.2.2.2 (ix2 k l) : EReal)
      = ∑ s ∈ Finset.range (n + 1), ∑ j : Fin 16, at' (hit m c k) s ⟨j.val * 128 + l.val, by omega⟩ := by
  induction n with
  | zero =>
    rw [show outsAt0 m c 0 hn = outsAt0 m c (⟨0, hn⟩ : Fin cfg0.N).val (⟨0, hn⟩ : Fin cfg0.N).isLt from rfl,
      Outs.cnt_first m c ⟨0, hn⟩ rfl, Pick.pay1_at]
    refine (Pick.pay13_at _ _ k l).trans ?_
    rw [Pick.pay11_at, zero_add, Finset.sum_range_one]
    exact Finset.sum_congr rfl fun j _ => pay8_pt m c ⟨0, hn⟩ k _
  | succ n ih =>
    have h16 := lt16 ⟨n + 1, hn⟩
    have h16' : n + 1 < 16 := h16
    rw [show outsAt0 m c (n + 1) hn = outsAt0 m c (⟨n + 1, hn⟩ : Fin cfg0.N).val (⟨n + 1, hn⟩ : Fin cfg0.N).isLt from rfl,
      Outs.cnt_next m c ⟨n + 1, hn⟩ (show ¬ (n + 1) % 16 = 0 by omega), Pick.pay1_at]
    refine (Pick.pay13_at _ _ k l).trans ?_
    rw [Finset.sum_range_succ]
    exact Ideal.add_congr (ih (Nat.lt_of_succ_lt hn)) (Finset.sum_congr rfl fun j _ => pay8_pt m c ⟨n + 1, hn⟩ k _)

/-- A point and a position of its block, against a place. -/
def place (p : Fin 16 × Fin 2048) : Fin 32 × Fin 1024 :=
  (⟨8 * (p.1.val / 4) + p.2.val / 256, by have := p.1.isLt; have := p.2.isLt; omega⟩,
    ⟨256 * (p.1.val % 4) + p.2.val % 256, by omega⟩)

/-- Each place is met once. -/
theorem place_bijective : Function.Bijective place := by
  rw [Fintype.bijective_iff_injective_and_card]
  constructor
  · rintro ⟨⟨a, ha⟩, ⟨q, hq⟩⟩ ⟨⟨a', ha'⟩, ⟨q', hq'⟩⟩ h
    have h1 := congrArg (fun z => z.1.val) h
    have h2 := congrArg (fun z => z.2.val) h
    simp only [place] at h1 h2
    have e1 : a = a' := by omega
    have e2 : q = q' := by omega
    subst e1 e2
    rfl
  · simp

/-- Summing over the points and the positions of a block is summing over the places. -/
theorem sum_points (g : Fin 32 → Fin 1024 → EReal) :
    ∑ s ∈ Finset.range 16, ∑ q : Fin 2048, at' g s q = ∑ b : Fin 32, ∑ t : Fin 1024, g b t := by
  rw [Finset.sum_range, ← Fintype.sum_prod_type', ← Fintype.sum_prod_type']
  refine Fintype.sum_bijective place place_bijective _ _ fun p => ?_
  have hp : p.1.val < cfg0.N := lt_of_lt_of_eq p.1.isLt (show cfg0.N = 16 from N_0).symm
  exact at'_pt g ⟨p.1.val, hp⟩ p.2

/-- The loss accumulator after the last point. -/
theorem acc_last (c : Dev nD) (hn : 15 < cfg0.N) :
    ((outsAt0 m c 15 hn).2.2.2.2.1 (ix2 0 0) : EReal) = Spec.total (X m c) (C m c) :=
  (acc m c 15 hn).trans (sum_points _)

/-- The counts after the last point, summed over the lanes. -/
theorem cnt_last (c : Dev nD) (k : Fin 1024) (hn : 15 < cfg0.N) :
    (∑ l : Fin 128, (outsAt0 m c 15 hn).2.2.2.2.2 (ix2 k l) : EReal) = Spec.count (X m c) (C m c) k := by
  refine Eq.trans ?_ (sum_points (hit m c k))
  rw [Finset.sum_congr rfl fun l _ => cnt m c k l 15 hn, Finset.sum_comm]
  refine Finset.sum_congr rfl fun s _ => ?_
  rw [Finset.sum_comm, Fin.sum_univ_tiles 16 128 rfl]

end Cert.KernelIdeal.Accum

end
-- ==== Proof.Kern.Final.lean ====
/- The four result arrays of the kernel, read at a place: the nearest codebook entry's vector, its index, the loss and the
   perplexity. -/
module

public import proofs.«01_k».proof.Proof.Kern.Accum

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Dist Cert.KernelIdeal.Value

variable (m : (ℓ : Loc nD τ sig) → Buf (Elt Ideal) ℓ)

/-- The point whose block holds the place `(b, t)`. -/
def pt (b : Fin 32) (t : Fin 1024) : Fin cfg0.N :=
  ⟨4 * (b.val / 8) + t.val / 256, lt_of_lt_of_eq (by omega) (show cfg0.N = 16 from N_0).symm⟩

/-- The place `(b, t)` is at row `b % 8` and column `t % 256` of its point's block. -/
theorem rowB_pt (b : Fin 32) (t : Fin 1024) (h : b.val % 8 * 256 + t.val % 256 < 2048) :
    rowB (pt b t) (qr ⟨b.val % 8 * 256 + t.val % 256, h⟩) = b := by
  apply Fin.ext
  show 8 * ((4 * (b.val / 8) + t.val / 256) / 4) + (b.val % 8 * 256 + t.val % 256) / 256 = b.val
  omega

/-- The second coordinate of that position. -/
theorem colT_pt (b : Fin 32) (t : Fin 1024) (h : b.val % 8 * 256 + t.val % 256 < 2048) :
    colT (pt b t) (qc ⟨b.val % 8 * 256 + t.val % 256, h⟩) = t := by
  apply Fin.ext
  show 256 * ((4 * (b.val / 8) + t.val / 256) % 4) + (b.val % 8 * 256 + t.val % 256) % 256 = t.val
  omega

/-- The nearest entry of the column holding the place `(b, t)`. -/
theorem first_pt (c : Dev nD) (b : Fin 32) (t : Fin 1024) (h : b.val % 8 * 256 + t.val % 256 < 2048) :
    Argmin.first (Pick.col (iblk m c 0 (pt b t)) (iblk m c 1 (pt b t)) (iblk m c 2 (pt b t)) (iblk m c 3 (pt b t))
      ⟨b.val % 8 * 256 + t.val % 256, h⟩) = Spec.best (X m c) (C m c) b t := by
  rw [Accum.col_eq, rowB_pt, colT_pt]
  rfl

/-- The first result at a place: the coordinate of the nearest codebook entry. -/
theorem zq (c : Dev nD) (b : Fin 32) (t : Fin 1024) (d : Fin 64) :
    G4 m c (ix3 b t d) = C m c (Spec.best (X m c) (C m c) b t) d := by
  have hp : pt4Of (ix3 b t d) = (pt b t).val := by
    show 4 * (b.val / 8 - 0) + 1 * (t.val / 256 - 0) + 1 * (d.val / 64 - 0) = 4 * (b.val / 8) + t.val / 256
    have := d.isLt
    omega
  have hl : loc4Of (ix3 b t d) = ix3 (⟨b.val % 8, by omega⟩ : Fin 8) (⟨t.val % 256, by omega⟩ : Fin 256) d := by
    funext a
    match a with
    | ⟨0, _⟩ => rfl
    | ⟨1, _⟩ => rfl
    | ⟨2, _⟩ => exact Fin.ext (Nat.mod_eq_of_lt d.isLt)
  unfold G4
  rw [dif_pos (by rw [hp]; exact (pt b t).isLt), hl]
  simp only [hp]
  rw [← outsAt0_sweep m c (pt b t).val (pt b t).isLt, Outs.zq]
  refine (Pick.pay9_at _ _ _ _ _ _ _ _).trans ?_
  rw [first_pt, blk2]

/-- The second result at a place: the index of the nearest codebook entry. -/
theorem idx (c : Dev nD) (b : Fin 32) (t : Fin 1024) :
    G5 m c (ix2 b t) = BitVec.ofNat 32 (Spec.best (X m c) (C m c) b t).val := by
  have hp : pt5Of (ix2 b t) = (pt b t).val := by
    show 4 * (b.val / 8 - 0) + 1 * (t.val / 256 - 0) = 4 * (b.val / 8) + t.val / 256
    omega
  have hl : loc5Of (ix2 b t) = ix2 (⟨b.val % 8, by omega⟩ : Fin 8) (⟨t.val % 256, by omega⟩ : Fin 256) := by
    funext a
    match a with
    | ⟨0, _⟩ => rfl
    | ⟨1, _⟩ => rfl
  unfold G5
  rw [dif_pos (by rw [hp]; exact (pt b t).isLt), hl]
  simp only [hp]
  rw [← outsAt0_sweep m c (pt b t).val (pt b t).isLt, Outs.idx]
  refine (Pick.pay7_at _ _ _ _ _ _).trans ?_
  rw [first_pt]

/-- There is a sixteenth point. -/
theorem lt15 : 15 < cfg0.N := lt_of_lt_of_eq (by decide) (show cfg0.N = 16 from N_0).symm

/-- The third result: the loss. -/
theorem loss (c : Dev nD) : G6 m c (ix2 0 0) = Spec.loss (X m c) (C m c) := by
  rw [G6_last, ← outsAt0_sweep m c 15 lt15,
    show outsAt0 m c 15 lt15 = outsAt0 m c (⟨15, lt15⟩ : Fin cfg0.N).val (⟨15, lt15⟩ : Fin cfg0.N).isLt from rfl,
    Outs.loss m c ⟨15, lt15⟩ rfl]
  refine (Pick.pay2_at _).trans ?_
  unfold Spec.loss
  rw [Accum.acc_last m c lt15]

/-- The fourth result: the perplexity. -/
theorem perp (c : Dev nD) : G7 m c (ix2 0 0) = Spec.perplexity (X m c) (C m c) := by
  rw [G7_last, ← outsAt0_sweep m c 15 lt15,
    show outsAt0 m c 15 lt15 = outsAt0 m c (⟨15, lt15⟩ : Fin cfg0.N).val (⟨15, lt15⟩ : Fin cfg0.N).isLt from rfl,
    Outs.perp m c ⟨15, lt15⟩ rfl]
  refine (Pick.pay3_at _).trans ?_
  unfold Spec.perplexity Spec.freq
  simp only [Accum.cnt_last m c _ lt15]

end Cert.KernelIdeal.Final

end
-- ==== Proof.Ref.Vals.lean ====
/- The reference program, one operation at a time. `val_<buffer>` is the value the operation writing that buffer computes,
   as a function of the two arguments (`x0`: the array to quantise, `x1`: the codebook), and `val_<buffer>_apply` reads
   it at one index. The arg-min, the gather, the scatter and the fold of a conjunction are read in other modules. -/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The arg-min's least values along the second axis. -/
def argminVal (x : FVec F S32768x1024 .f32) (y : IVec S32768x1024 32) (a : FVec F S_ .f32) (b : IVec S_ 32) : FVec F S32768 .f32 :=
  fun j => (Host.argReduce reducer_argmin_f32_i32 x y a b reducesTo_S32768x1024_S32768_d1 h_S_ j).1

/-- The arg-min's indices of the least values along the second axis. -/
def argminIdx (x : FVec F S32768x1024 .f32) (y : IVec S32768x1024 32) (a : FVec F S_ .f32) (b : IVec S_ 32) : IVec S32768 32 :=
  fun j => (Host.argReduce reducer_argmin_f32_i32 x y a b reducesTo_S32768x1024_S32768_d1 h_S_ j).2

/-- The value written by `%0 = stablehlo.reshape %arg0 : (tensor<32x1024x64xf32>) -> tensor<32768x64xf32>`. -/
def val_main_v0 (x0 : (⟨S32x1024x64, .f32⟩ : BufTy).Contents (Elt F)) : (⟨S32768x64, .f32⟩ : BufTy).Contents (Elt F) :=
  shapeCast _ (x0) shapeCasts_S32x1024x64_S32768x64
set_option backward.proofsInPublic true in
/-- The operand index that the value reads for a given index of its own. -/
abbrev idx_main_v0 (i : S32768x64.Idx) : S32x1024x64.Idx := fun a => match a with
  | ⟨0, _⟩ => ⟨((i 0).val * 64 + (i 1).val) / 65536, by have h0 : (i 0).val < 32768 := (i 0).isLt; have h1 : (i 1).val < 64 := (i 1).isLt; show ((i 0).val * 64 + (i 1).val) / 65536 < 32; omega⟩
  | ⟨1, _⟩ => ⟨((i 0).val * 64 + (i 1).val) / 64 % 1024, by have h0 : (i 0).val < 32768 := (i 0).isLt; have h1 : (i 1).val < 64 := (i 1).isLt; show ((i 0).val * 64 + (i 1).val) / 64 % 1024 < 1024; omega⟩
  | ⟨2, _⟩ => ⟨((i 0).val * 64 + (i 1).val) % 64, by have h0 : (i 0).val < 32768 := (i 0).isLt; have h1 : (i 1).val < 64 := (i 1).isLt; show ((i 0).val * 64 + (i 1).val) % 64 < 64; omega⟩
/-- `val_main_v0` read at an index, from its operands read at an index. -/
theorem val_main_v0_apply (x0 : (⟨S32x1024x64, .f32⟩ : BufTy).Contents (Elt F)) (i : S32768x64.Idx) :
    val_main_v0 (F := F) x0 i = x0 (idx_main_v0 i) := by
  unfold val_main_v0
  exact shapeCast_apply x0 shapeCasts_S32x1024x64_S32768x64 i (idx_main_v0 i)
    (by rewrite [Shape.rowMajor_val_three, Shape.rowMajor_val_two]; have h0 : (i 0).val < 32768 := (i 0).isLt; have h1 : (i 1).val < 64 := (i 1).isLt; show (((i 0).val * 64 + (i 1).val) / 65536 * 1024 + ((i 0).val * 64 + (i 1).val) / 64 % 1024) * 64 + ((i 0).val * 64 + (i 1).val) % 64 = (i 0).val * 64 + (i 1).val; omega)

/-- The value written by `%1 = stablehlo.multiply %0, %0 : tensor<32768x64xf32>`. -/
def val_main_v1 (x0 : (⟨S32x1024x64, .f32⟩ : BufTy).Contents (Elt F)) : (⟨S32768x64, .f32⟩ : BufTy).Contents (Elt F) :=
  mulf (val_main_v0 (F := F) x0) (val_main_v0 (F := F) x0)
/-- `val_main_v1` read at an index, from its operands read at an index. -/
theorem val_main_v1_apply (x0 : (⟨S32x1024x64, .f32⟩ : BufTy).Contents (Elt F)) (i : S32768x64.Idx) :
    val_main_v1 (F := F) x0 i = FloatOps.mulf (val_main_v0 (F := F) x0 i) (val_main_v0 (F := F) x0 i) := rfl

/-- The value written by `%cst = stablehlo.constant dense<0.000000e+00> : tensor<f32>`. -/
def val_main_cst : (⟨S_, .f32⟩ : BufTy).Contents (Elt F) :=
  constant S_ .f32 0x00000000#32
/-- `val_main_cst` read at an index, from its operands read at an index. -/
theorem val_main_cst_apply (i : S_.Idx) :
    val_main_cst (F := F) i = FloatOps.ofBits .f32 0x00000000#32 := rfl

/-- The value written by `%2 = stablehlo.reduce(%1 init: %cst) applies stablehlo.add across dimensions = [1] : (tensor<32768x64xf32>, tensor<f32>) -> tensor<32768xf32> {`. -/
def val_main_v2 (x0 : (⟨S32x1024x64, .f32⟩ : BufTy).Contents (Elt F)) : (⟨S32768, .f32⟩ : BufTy).Contents (Elt F) :=
  Host.reduceAdd (val_main_v1 (F := F) x0) (val_main_cst (F := F)) reducesTo_S32768x64_S32768_d1 h_S_
/-- The operand index that the value reads for a given index of its own. -/
abbrev idx_main_v2 (i : S32768.Idx) (k : Fin 64) : S32768x64.Idx := fun a => match a with
  | ⟨0, _⟩ => ⟨(i 0).val, (i 0).isLt⟩
  | ⟨1, _⟩ => ⟨k.val, k.isLt⟩
/-- Stated at `F := Ideal`, where the host's float sum is this sum. -/
theorem val_main_v2_apply (x0 : (⟨S32x1024x64, .f32⟩ : BufTy).Contents (Elt Ideal)) (i : S32768.Idx) :
    val_main_v2 (F := Ideal) x0 i = (val_main_cst (F := Ideal)) (Shape.Idx.first h_S_) + ∑ k : Fin 64, (val_main_v1 (F := Ideal) x0) (idx_main_v2 i k) := by
  unfold val_main_v2
  generalize val_main_v1 (F := Ideal) x0 = y0
  simp only [Host.reduceAdd, Ideal.hostReduceAdd_def]
  rw [Ideal.hostReduceAdd_single reducesTo_S32768x64_S32768_d1 (by decide)]
  refine congrArg (_ + ·) (Finset.sum_congr rfl fun k _ => ?_)
  exact congrArg y0 (funext fun a => Fin.ext (by match a with | ⟨0, _⟩ => rfl | ⟨1, _⟩ => rfl))

/-- The value written by `%3 = stablehlo.broadcast_in_dim %2, dims = [0] : (tensor<32768xf32>) -> tensor<32768x1xf32>`. -/
def val_main_v3 (x0 : (⟨S32x1024x64, .f32⟩ : BufTy).Contents (Elt F)) : (⟨S32768x1, .f32⟩ : BufTy).Contents (Elt F) :=
  broadcastInDim S32768x1 ![0] bcast_S32768_S32768x1_0 (val_main_v2 (F := F) x0)
/-- The operand index that the value reads for a given index of its own. -/
abbrev idx_main_v3 (i : S32768x1.Idx) : S32768.Idx := fun a => match a with
  | ⟨0, _⟩ => ⟨(i 0).val, (i 0).isLt⟩
/-- `val_main_v3` read at an index, from its operands read at an index. -/
theorem val_main_v3_apply (x0 : (⟨S32x1024x64, .f32⟩ : BufTy).Contents (Elt F)) (i : S32768x1.Idx) :
    val_main_v3 (F := F) x0 i = val_main_v2 (F := F) x0 (idx_main_v3 i) := by
  unfold val_main_v3
  generalize val_main_v2 (F := F) x0 = y
  exact broadcastInDim_apply _ bcast_S32768_S32768x1_0 y i (idx_main_v3 i) (fun a => match a with
    | ⟨0, _⟩ => by show (i 0).val = if (32768 : Nat) = 1 then 0 else (i 0).val; rw [if_neg (by decide)])

/-- The value written by `%4 = stablehlo.multiply %arg1, %arg1 : tensor<1024x64xf32>`. -/
def val_main_v4 (x1 : (⟨S1024x64, .f32⟩ : BufTy).Contents (Elt F)) : (⟨S1024x64, .f32⟩ : BufTy).Contents (Elt F) :=
  mulf (x1) (x1)
/-- `val_main_v4` read at an index, from its operands read at an index. -/
theorem val_main_v4_apply (x1 : (⟨S1024x64, .f32⟩ : BufTy).Contents (Elt F)) (i : S1024x64.Idx) :
    val_main_v4 (F := F) x1 i = FloatOps.mulf (x1 i) (x1 i) := rfl

/-- The value written by `%cst_0 = stablehlo.constant dense<0.000000e+00> : tensor<f32>`. -/
def val_main_cst_0 : (⟨S_, .f32⟩ : BufTy).Contents (Elt F) :=
  constant S_ .f32 0x00000000#32
/-- `val_main_cst_0` read at an index, from its operands read at an index. -/
theorem val_main_cst_0_apply (i : S_.Idx) :
    val_main_cst_0 (F := F) i = FloatOps.ofBits .f32 0x00000000#32 := rfl

/-- The value written by `%5 = stablehlo.reduce(%4 init: %cst_0) applies stablehlo.add across dimensions = [1] : (tensor<1024x64xf32>, tensor<f32>) -> tensor<1024xf32> {`. -/
def val_main_v5 (x1 : (⟨S1024x64, .f32⟩ : BufTy).Contents (Elt F)) : (⟨S1024, .f32⟩ : BufTy).Contents (Elt F) :=
  Host.reduceAdd (val_main_v4 (F := F) x1) (val_main_cst_0 (F := F)) reducesTo_S1024x64_S1024_d1 h_S_
/-- The operand index that the value reads for a given index of its own. -/
abbrev idx_main_v5 (i : S1024.Idx) (k : Fin 64) : S1024x64.Idx := fun a => match a with
  | ⟨0, _⟩ => ⟨(i 0).val, (i 0).isLt⟩
  | ⟨1, _⟩ => ⟨k.val, k.isLt⟩
/-- Stated at `F := Ideal`, where the host's float sum is this sum. -/
theorem val_main_v5_apply (x1 : (⟨S1024x64, .f32⟩ : BufTy).Contents (Elt Ideal)) (i : S1024.Idx) :
    val_main_v5 (F := Ideal) x1 i = (val_main_cst_0 (F := Ideal)) (Shape.Idx.first h_S_) + ∑ k : Fin 64, (val_main_v4 (F := Ideal) x1) (idx_main_v5 i k) := by
  unfold val_main_v5
  generalize val_main_v4 (F := Ideal) x1 = y0
  simp only [Host.reduceAdd, Ideal.hostReduceAdd_def]
  rw [Ideal.hostReduceAdd_single reducesTo_S1024x64_S1024_d1 (by decide)]
  refine congrArg (_ + ·) (Finset.sum_congr rfl fun k _ => ?_)
  exact congrArg y0 (funext fun a => Fin.ext (by match a with | ⟨0, _⟩ => rfl | ⟨1, _⟩ => rfl))

/-- The value written by `%6 = stablehlo.broadcast_in_dim %5, dims = [1] : (tensor<1024xf32>) -> tensor<1x1024xf32>`. -/
def val_main_v6 (x1 : (⟨S1024x64, .f32⟩ : BufTy).Contents (Elt F)) : (⟨S1x1024, .f32⟩ : BufTy).Contents (Elt F) :=
  broadcastInDim S1x1024 ![1] bcast_S1024_S1x1024_1 (val_main_v5 (F := F) x1)
/-- The operand index that the value reads for a given index of its own. -/
abbrev idx_main_v6 (i : S1x1024.Idx) : S1024.Idx := fun a => match a with
  | ⟨0, _⟩ => ⟨(i 1).val, (i 1).isLt⟩
/-- `val_main_v6` read at an index, from its operands read at an index. -/
theorem val_main_v6_apply (x1 : (⟨S1024x64, .f32⟩ : BufTy).Contents (Elt F)) (i : S1x1024.Idx) :
    val_main_v6 (F := F) x1 i = val_main_v5 (F := F) x1 (idx_main_v6 i) := by
  unfold val_main_v6
  generalize val_main_v5 (F := F) x1 = y
  exact broadcastInDim_apply _ bcast_S1024_S1x1024_1 y i (idx_main_v6 i) (fun a => match a with
    | ⟨0, _⟩ => by show (i 1).val = if (1024 : Nat) = 1 then 0 else (i 1).val; rw [if_neg (by decide)])

/-- The value written by `%7 = stablehlo.broadcast_in_dim %3, dims = [0, 1] : (tensor<32768x1xf32>) -> tensor<32768x1024xf32>`. -/
def val_main_v7 (x0 : (⟨S32x1024x64, .f32⟩ : BufTy).Contents (Elt F)) : (⟨S32768x1024, .f32⟩ : BufTy).Contents (Elt F) :=
  broadcastInDim S32768x1024 ![0, 1] bcast_S32768x1_S32768x1024_0_1 (val_main_v3 (F := F) x0)
/-- The operand index that the value reads for a given index of its own. -/
abbrev idx_main_v7 (i : S32768x1024.Idx) : S32768x1.Idx := fun a => match a with
  | ⟨0, _⟩ => ⟨(i 0).val, (i 0).isLt⟩
  | ⟨1, _⟩ => ⟨0, Nat.one_pos⟩
/-- `val_main_v7` read at an index, from its operands read at an index. -/
theorem val_main_v7_apply (x0 : (⟨S32x1024x64, .f32⟩ : BufTy).Contents (Elt F)) (i : S32768x1024.Idx) :
    val_main_v7 (F := F) x0 i = val_main_v3 (F := F) x0 (idx_main_v7 i) := by
  unfold val_main_v7
  generalize val_main_v3 (F := F) x0 = y
  exact broadcastInDim_apply _ bcast_S32768x1_S32768x1024_0_1 y i (idx_main_v7 i) (fun a => match a with
    | ⟨0, _⟩ => by show (i 0).val = if (32768 : Nat) = 1 then 0 else (i 0).val; rw [if_neg (by decide)]
    | ⟨1, _⟩ => by show 0 = if (1 : Nat) = 1 then 0 else (i 1).val; rw [if_pos rfl])

/-- The value written by `%8 = stablehlo.broadcast_in_dim %6, dims = [0, 1] : (tensor<1x1024xf32>) -> tensor<32768x1024xf32>`. -/
def val_main_v8 (x1 : (⟨S1024x64, .f32⟩ : BufTy).Contents (Elt F)) : (⟨S32768x1024, .f32⟩ : BufTy).Contents (Elt F) :=
  broadcastInDim S32768x1024 ![0, 1] bcast_S1x1024_S32768x1024_0_1 (val_main_v6 (F := F) x1)
/-- The operand index that the value reads for a given index of its own. -/
abbrev idx_main_v8 (i : S32768x1024.Idx) : S1x1024.Idx := fun a => match a with
  | ⟨0, _⟩ => ⟨0, Nat.one_pos⟩
  | ⟨1, _⟩ => ⟨(i 1).val, (i 1).isLt⟩
/-- `val_main_v8` read at an index, from its operands read at an index. -/
theorem val_main_v8_apply (x1 : (⟨S1024x64, .f32⟩ : BufTy).Contents (Elt F)) (i : S32768x1024.Idx) :
    val_main_v8 (F := F) x1 i = val_main_v6 (F := F) x1 (idx_main_v8 i) := by
  unfold val_main_v8
  generalize val_main_v6 (F := F) x1 = y
  exact broadcastInDim_apply _ bcast_S1x1024_S32768x1024_0_1 y i (idx_main_v8 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

/-- The value written by `%9 = stablehlo.add %7, %8 : tensor<32768x1024xf32>`. -/
def val_main_v9 (x0 : (⟨S32x1024x64, .f32⟩ : BufTy).Contents (Elt F)) (x1 : (⟨S1024x64, .f32⟩ : BufTy).Contents (Elt F)) : (⟨S32768x1024, .f32⟩ : BufTy).Contents (Elt F) :=
  addf (val_main_v7 (F := F) x0) (val_main_v8 (F := F) x1)
/-- `val_main_v9` read at an index, from its operands read at an index. -/
theorem val_main_v9_apply (x0 : (⟨S32x1024x64, .f32⟩ : BufTy).Contents (Elt F)) (x1 : (⟨S1024x64, .f32⟩ : BufTy).Contents (Elt F)) (i : S32768x1024.Idx) :
    val_main_v9 (F := F) x0 x1 i = FloatOps.addf (val_main_v7 (F := F) x0 i) (val_main_v8 (F := F) x1 i) := rfl

/-- The value written by `%10 = stablehlo.transpose %arg1, dims = [1, 0] : (tensor<1024x64xf32>) -> tensor<64x1024xf32>`. -/
def val_main_v10 (x1 : (⟨S1024x64, .f32⟩ : BufTy).Contents (Elt F)) : (⟨S64x1024, .f32⟩ : BufTy).Contents (Elt F) :=
  transpose S64x1024 [1, 0] (x1) transposes_S1024x64_S64x1024_1_0
/-- The operand index that the value reads for a given index of its own. -/
abbrev idx_main_v10 (i : S64x1024.Idx) : S1024x64.Idx := fun a => match a with
  | ⟨0, _⟩ => ⟨(i 1).val, (i 1).isLt⟩
  | ⟨1, _⟩ => ⟨(i 0).val, (i 0).isLt⟩
/-- `val_main_v10` read at an index, from its operands read at an index. -/
theorem val_main_v10_apply (x1 : (⟨S1024x64, .f32⟩ : BufTy).Contents (Elt F)) (i : S64x1024.Idx) :
    val_main_v10 (F := F) x1 i = x1 (idx_main_v10 i) := by
  unfold val_main_v10
  exact transpose_apply [1, 0] x1 transposes_S1024x64_S64x1024_1_0 i (idx_main_v10 i) (fun b => match b with
    | ⟨0, _⟩ => rfl
    | ⟨1, _⟩ => rfl)

/-- The value written by `%11 = stablehlo.dot_general %0, %10, contracting_dims = [1] x [0], precision = [DEFAULT, DEFAULT] : (tensor<32768x64xf32>, tensor<64x1024xf32>) -> tensor<32768x1024xf32>`. -/
def val_main_v11 (x0 : (⟨S32x1024x64, .f32⟩ : BufTy).Contents (Elt F)) (x1 : (⟨S1024x64, .f32⟩ : BufTy).Contents (Elt F)) : (⟨S32768x1024, .f32⟩ : BufTy).Contents (Elt F) :=
  Host.dotGeneral dot_S32768x64_S64x1024_S32768x1024_1_0_0_1_n_n none (val_main_v0 (F := F) x0) (val_main_v10 (F := F) x1)
/-- Coordinate 0 of the place the product reads in its left operand. -/
theorem lhs_main_v11_0 (i : S32768x1024.Idx) (q : dot_S32768x64_S64x1024_S32768x1024_1_0_0_1_n_n.contr.Idx) :
    (dot_S32768x64_S64x1024_S32768x1024_1_0_0_1_n_n.lhsIdx i q 0).val = (i 0).val := by
  unfold DotDims.lhsIdx
  rw [dif_neg (show ¬(0 : Fin S32768x64.rank) ∈ dot_S32768x64_S64x1024_S32768x1024_1_0_0_1_n_n.lhsBatch by decide), dif_pos (show (0 : Fin S32768x64.rank) ∈ dot_S32768x64_S64x1024_S32768x1024_1_0_0_1_n_n.lhsNonContracting by decide)]
  rfl
/-- Coordinate 1 of the place the product reads in its left operand. -/
theorem lhs_main_v11_1 (i : S32768x1024.Idx) (q : dot_S32768x64_S64x1024_S32768x1024_1_0_0_1_n_n.contr.Idx) :
    (dot_S32768x64_S64x1024_S32768x1024_1_0_0_1_n_n.lhsIdx i q 1).val = (q ⟨0, by decide⟩).val :=
  dot_S32768x64_S64x1024_S32768x1024_1_0_0_1_n_n.lhsIdx_val_of_single rfl i q
/-- Coordinate 0 of the place the product reads in its right operand. -/
theorem rhs_main_v11_0 (i : S32768x1024.Idx) (q : dot_S32768x64_S64x1024_S32768x1024_1_0_0_1_n_n.contr.Idx) :
    (dot_S32768x64_S64x1024_S32768x1024_1_0_0_1_n_n.rhsIdx i q 0).val = (q ⟨0, by decide⟩).val :=
  dot_S32768x64_S64x1024_S32768x1024_1_0_0_1_n_n.rhsIdx_val_of_single rfl i q
/-- Coordinate 1 of the place the product reads in its right operand. -/
theorem rhs_main_v11_1 (i : S32768x1024.Idx) (q : dot_S32768x64_S64x1024_S32768x1024_1_0_0_1_n_n.contr.Idx) :
    (dot_S32768x64_S64x1024_S32768x1024_1_0_0_1_n_n.rhsIdx i q 1).val = (i 1).val := by
  unfold DotDims.rhsIdx
  rw [dif_neg (show ¬(1 : Fin S64x1024.rank) ∈ dot_S32768x64_S64x1024_S32768x1024_1_0_0_1_n_n.rhsBatch by decide), dif_pos (show (1 : Fin S64x1024.rank) ∈ dot_S32768x64_S64x1024_S32768x1024_1_0_0_1_n_n.rhsNonContracting by decide)]
  rfl
/-- The operand index that the value reads for a given index of its own. -/
abbrev lidx_main_v11 (i : S32768x1024.Idx) (k : Fin 64) : S32768x64.Idx := fun a => match a with
  | ⟨0, _⟩ => ⟨(i 0).val, (i 0).isLt⟩
  | ⟨1, _⟩ => ⟨k.val, k.isLt⟩
/-- The operand index that the value reads for a given index of its own. -/
abbrev ridx_main_v11 (i : S32768x1024.Idx) (k : Fin 64) : S64x1024.Idx := fun a => match a with
  | ⟨0, _⟩ => ⟨k.val, k.isLt⟩
  | ⟨1, _⟩ => ⟨(i 1).val, (i 1).isLt⟩
/-- Stated at `F := Ideal`, where the host's `dot_general` is this sum. -/
theorem val_main_v11_apply (x0 : (⟨S32x1024x64, .f32⟩ : BufTy).Contents (Elt Ideal)) (x1 : (⟨S1024x64, .f32⟩ : BufTy).Contents (Elt Ideal)) (i : S32768x1024.Idx) :
    val_main_v11 (F := Ideal) x0 x1 i = ∑ k : Fin 64, (val_main_v0 (F := Ideal) x0) (lidx_main_v11 i k) * (val_main_v10 (F := Ideal) x1) (ridx_main_v11 i k) := by
  unfold val_main_v11
  generalize val_main_v0 (F := Ideal) x0 = y0
  generalize val_main_v10 (F := Ideal) x1 = y1
  simp only [Host.dotGeneral]
  rw [Ideal.dotGeneral_apply, ← Equiv.sum_comp (ValueIdx.contrEquiv1 dot_S32768x64_S64x1024_S32768x1024_1_0_0_1_n_n 64 rfl rfl).symm]
  refine Finset.sum_congr rfl fun k _ => ?_
  have hk := ValueIdx.contrEquiv1_symm_val dot_S32768x64_S64x1024_S32768x1024_1_0_0_1_n_n 64 rfl rfl k
  have el : dot_S32768x64_S64x1024_S32768x1024_1_0_0_1_n_n.lhsIdx i ((ValueIdx.contrEquiv1 dot_S32768x64_S64x1024_S32768x1024_1_0_0_1_n_n 64 rfl rfl).symm k) = lidx_main_v11 i k := funext fun a => Fin.ext (by
    match a with
    | ⟨0, _⟩ => exact lhs_main_v11_0 _ _
    | ⟨1, _⟩ => exact (lhs_main_v11_1 _ _).trans hk)
  have er : dot_S32768x64_S64x1024_S32768x1024_1_0_0_1_n_n.rhsIdx i ((ValueIdx.contrEquiv1 dot_S32768x64_S64x1024_S32768x1024_1_0_0_1_n_n 64 rfl rfl).symm k) = ridx_main_v11 i k := funext fun a => Fin.ext (by
    match a with
    | ⟨0, _⟩ => exact (rhs_main_v11_0 _ _).trans hk
    | ⟨1, _⟩ => exact rhs_main_v11_1 _ _)
  rw [el, er]

/-- The value written by `%cst_1 = stablehlo.constant dense<2.000000e+00> : tensor<f32>`. -/
def val_main_cst_1 : (⟨S_, .f32⟩ : BufTy).Contents (Elt F) :=
  constant S_ .f32 0x40000000#32
/-- `val_main_cst_1` read at an index, from its operands read at an index. -/
theorem val_main_cst_1_apply (i : S_.Idx) :
    val_main_cst_1 (F := F) i = FloatOps.ofBits .f32 0x40000000#32 := rfl

/-- The value written by `%12 = stablehlo.broadcast_in_dim %cst_1, dims = [] : (tensor<f32>) -> tensor<32768x1024xf32>`. -/
def val_main_v12 : (⟨S32768x1024, .f32⟩ : BufTy).Contents (Elt F) :=
  broadcastInDim S32768x1024 ![] bcast_S_S32768x1024 (val_main_cst_1 (F := F))
/-- The operand index that the value reads for a given index of its own. -/
abbrev idx_main_v12 (i : S32768x1024.Idx) : S_.Idx := fun a => a.elim0
/-- `val_main_v12` read at an index, from its operands read at an index. -/
theorem val_main_v12_apply (i : S32768x1024.Idx) :
    val_main_v12 (F := F) i = val_main_cst_1 (F := F) (idx_main_v12 i) := by
  unfold val_main_v12
  generalize val_main_cst_1 (F := F) = y
  exact broadcastInDim_apply _ bcast_S_S32768x1024 y i (idx_main_v12 i) (fun a => a.elim0)

/-- The value written by `%13 = stablehlo.multiply %12, %11 : tensor<32768x1024xf32>`. -/
def val_main_v13 (x0 : (⟨S32x1024x64, .f32⟩ : BufTy).Contents (Elt F)) (x1 : (⟨S1024x64, .f32⟩ : BufTy).Contents (Elt F)) : (⟨S32768x1024, .f32⟩ : BufTy).Contents (Elt F) :=
  mulf (val_main_v12 (F := F)) (val_main_v11 (F := F) x0 x1)
/-- `val_main_v13` read at an index, from its operands read at an index. -/
theorem val_main_v13_apply (x0 : (⟨S32x1024x64, .f32⟩ : BufTy).Contents (Elt F)) (x1 : (⟨S1024x64, .f32⟩ : BufTy).Contents (Elt F)) (i : S32768x1024.Idx) :
    val_main_v13 (F := F) x0 x1 i = FloatOps.mulf (val_main_v12 (F := F) i) (val_main_v11 (F := F) x0 x1 i) := rfl

/-- The value written by `%14 = stablehlo.subtract %9, %13 : tensor<32768x1024xf32>`. -/
def val_main_v14 (x0 : (⟨S32x1024x64, .f32⟩ : BufTy).Contents (Elt F)) (x1 : (⟨S1024x64, .f32⟩ : BufTy).Contents (Elt F)) : (⟨S32768x1024, .f32⟩ : BufTy).Contents (Elt F) :=
  subf (val_main_v9 (F := F) x0 x1) (val_main_v13 (F := F) x0 x1)
/-- `val_main_v14` read at an index, from its operands read at an index. -/
theorem val_main_v14_apply (x0 : (⟨S32x1024x64, .f32⟩ : BufTy).Contents (Elt F)) (x1 : (⟨S1024x64, .f32⟩ : BufTy).Contents (Elt F)) (i : S32768x1024.Idx) :
    val_main_v14 (F := F) x0 x1 i = FloatOps.subf (val_main_v9 (F := F) x0 x1 i) (val_main_v13 (F := F) x0 x1 i) := rfl

/-- In the called function `argmin`: the value written by `%0 = stablehlo.iota dim = 1 : tensor<32768x1024xi32>`. -/
def val_main_call0_v0 : (⟨S32768x1024, .i32⟩ : BufTy).Contents (Elt F) :=
  iotaInDim S32768x1024 32 1
/-- `val_main_call0_v0` read at an index, from its operands read at an index. -/
theorem val_main_call0_v0_apply (i : S32768x1024.Idx) :
    val_main_call0_v0 (F := F) i = BitVec.ofNat 32 (i 1).val := rfl

/-- In the called function `argmin`: the value written by `%cst = stablehlo.constant dense<0x7F800000> : tensor<f32>`. -/
def val_main_call0_cst : (⟨S_, .f32⟩ : BufTy).Contents (Elt F) :=
  constant S_ .f32 0x7F800000#32
/-- `val_main_call0_cst` read at an index, from its operands read at an index. -/
theorem val_main_call0_cst_apply (i : S_.Idx) :
    val_main_call0_cst (F := F) i = FloatOps.ofBits .f32 0x7F800000#32 := rfl

/-- In the called function `argmin`: the value written by `%c = stablehlo.constant dense<0> : tensor<i32>`. -/
def val_main_call0_c : (⟨S_, .i32⟩ : BufTy).Contents (Elt F) :=
  constantI S_ 32 0#32
/-- `val_main_call0_c` read at an index, from its operands read at an index. -/
theorem val_main_call0_c_apply (i : S_.Idx) :
    val_main_call0_c (F := F) i = 0#32 := rfl

/-- In the called function `argmin`: the value written by `%1:2 = stablehlo.reduce(%arg0 init: %cst), (%0 init: %c) across dimensions = [1] : (tensor<32768x1024xf32>, tensor<32768x1024xi32>, tensor<f32>, tensor<i32>) -> (tensor<32768xf32>, tensor<32768xi32>) reducer(%arg1: tensor<f32>, %arg3: tensor<f32>) (%arg2: tensor<i32>, %arg4: tensor<i32>) {`. -/
def val_main_call0_v1_0 (x0 : (⟨S32x1024x64, .f32⟩ : BufTy).Contents (Elt F)) (x1 : (⟨S1024x64, .f32⟩ : BufTy).Contents (Elt F)) : (⟨S32768, .f32⟩ : BufTy).Contents (Elt F) :=
  argminVal (val_main_v14 (F := F) x0 x1) (val_main_call0_v0 (F := F)) (val_main_call0_cst (F := F)) (val_main_call0_c (F := F))

/-- The value written by `%15 = func.call @argmin(…) result 0: @argmin's %1:2 = stablehlo.reduce(%arg0 init: %cst), (%0 init: %c) across dimensions = [1] : (tensor<32768x1024xf32>, tensor<32768x1024xi32>, tensor<f32>, tensor<i32>) -> (tensor<32768xf32>, tensor<32768xi32>) reducer(%arg1: tensor<f32>, %arg3: tensor<f32>) (%arg2: tensor<i32>, %arg4: tensor<i32>) {`. -/
def val_main_v15 (x0 : (⟨S32x1024x64, .f32⟩ : BufTy).Contents (Elt F)) (x1 : (⟨S1024x64, .f32⟩ : BufTy).Contents (Elt F)) : (⟨S32768, .i32⟩ : BufTy).Contents (Elt F) :=
  argminIdx (val_main_v14 (F := F) x0 x1) (val_main_call0_v0 (F := F)) (val_main_call0_cst (F := F)) (val_main_call0_c (F := F))

/-- In the called function `_take`: the value written by `%c = stablehlo.constant dense<0> : tensor<i32>`. -/
def val_main_call1_c : (⟨S_, .i32⟩ : BufTy).Contents (Elt F) :=
  constantI S_ 32 0#32
/-- `val_main_call1_c` read at an index, from its operands read at an index. -/
theorem val_main_call1_c_apply (i : S_.Idx) :
    val_main_call1_c (F := F) i = 0#32 := rfl

/-- In the called function `_take`: the value written by `%0 = stablehlo.broadcast_in_dim %c, dims = [] : (tensor<i32>) -> tensor<32768xi32>`. -/
def val_main_call1_v0 : (⟨S32768, .i32⟩ : BufTy).Contents (Elt F) :=
  broadcastInDim S32768 ![] bcast_S_S32768 (val_main_call1_c (F := F))
/-- The operand index that the value reads for a given index of its own. -/
abbrev idx_main_call1_v0 (i : S32768.Idx) : S_.Idx := fun a => a.elim0
/-- `val_main_call1_v0` read at an index, from its operands read at an index. -/
theorem val_main_call1_v0_apply (i : S32768.Idx) :
    val_main_call1_v0 (F := F) i = val_main_call1_c (F := F) (idx_main_call1_v0 i) := by
  unfold val_main_call1_v0
  generalize val_main_call1_c (F := F) = y
  exact broadcastInDim_apply _ bcast_S_S32768 y i (idx_main_call1_v0 i) (fun a => a.elim0)

/-- In the called function `_take`: the value written by `%1 = stablehlo.compare LT, %arg1, %0, SIGNED : (tensor<32768xi32>, tensor<32768xi32>) -> tensor<32768xi1>`. -/
def val_main_call1_v1 (x0 : (⟨S32x1024x64, .f32⟩ : BufTy).Contents (Elt F)) (x1 : (⟨S1024x64, .f32⟩ : BufTy).Contents (Elt F)) : (⟨S32768, .i1⟩ : BufTy).Contents (Elt F) :=
  cmpi .slt (val_main_v15 (F := F) x0 x1) (val_main_call1_v0 (F := F))
/-- `val_main_call1_v1` read at an index, from its operands read at an index. -/
theorem val_main_call1_v1_apply (x0 : (⟨S32x1024x64, .f32⟩ : BufTy).Contents (Elt F)) (x1 : (⟨S1024x64, .f32⟩ : BufTy).Contents (Elt F)) (i : S32768.Idx) :
    val_main_call1_v1 (F := F) x0 x1 i = IntOp.cmpi .slt (val_main_v15 (F := F) x0 x1 i) (val_main_call1_v0 (F := F) i) := rfl

/-- In the called function `_take`: the value written by `%c_0 = stablehlo.constant dense<1024> : tensor<i32>`. -/
def val_main_call1_c_0 : (⟨S_, .i32⟩ : BufTy).Contents (Elt F) :=
  constantI S_ 32 1024#32
/-- `val_main_call1_c_0` read at an index, from its operands read at an index. -/
theorem val_main_call1_c_0_apply (i : S_.Idx) :
    val_main_call1_c_0 (F := F) i = 1024#32 := rfl

/-- In the called function `_take`: the value written by `%2 = stablehlo.broadcast_in_dim %c_0, dims = [] : (tensor<i32>) -> tensor<32768xi32>`. -/
def val_main_call1_v2 : (⟨S32768, .i32⟩ : BufTy).Contents (Elt F) :=
  broadcastInDim S32768 ![] bcast_S_S32768 (val_main_call1_c_0 (F := F))
/-- The operand index that the value reads for a given index of its own. -/
abbrev idx_main_call1_v2 (i : S32768.Idx) : S_.Idx := fun a => a.elim0
/-- `val_main_call1_v2` read at an index, from its operands read at an index. -/
theorem val_main_call1_v2_apply (i : S32768.Idx) :
    val_main_call1_v2 (F := F) i = val_main_call1_c_0 (F := F) (idx_main_call1_v2 i) := by
  unfold val_main_call1_v2
  generalize val_main_call1_c_0 (F := F) = y
  exact broadcastInDim_apply _ bcast_S_S32768 y i (idx_main_call1_v2 i) (fun a => a.elim0)

/-- In the called function `_take`: the value written by `%3 = stablehlo.add %arg1, %2 : tensor<32768xi32>`. -/
def val_main_call1_v3 (x0 : (⟨S32x1024x64, .f32⟩ : BufTy).Contents (Elt F)) (x1 : (⟨S1024x64, .f32⟩ : BufTy).Contents (Elt F)) : (⟨S32768, .i32⟩ : BufTy).Contents (Elt F) :=
  addi (val_main_v15 (F := F) x0 x1) (val_main_call1_v2 (F := F))
/-- `val_main_call1_v3` read at an index, from its operands read at an index. -/
theorem val_main_call1_v3_apply (x0 : (⟨S32x1024x64, .f32⟩ : BufTy).Contents (Elt F)) (x1 : (⟨S1024x64, .f32⟩ : BufTy).Contents (Elt F)) (i : S32768.Idx) :
    val_main_call1_v3 (F := F) x0 x1 i = IntOp.addi (val_main_v15 (F := F) x0 x1 i) (val_main_call1_v2 (F := F) i) := rfl

/-- In the called function `_take`: the value written by `%4 = func.call @_where(…) result 0: @_where's %0 = stablehlo.select %arg0, %arg1, %arg2 : tensor<32768xi1>, tensor<32768xi32>`. -/
def val_main_call1_v4 (x0 : (⟨S32x1024x64, .f32⟩ : BufTy).Contents (Elt F)) (x1 : (⟨S1024x64, .f32⟩ : BufTy).Contents (Elt F)) : (⟨S32768, .i32⟩ : BufTy).Contents (Elt F) :=
  select (val_main_call1_v1 (F := F) x0 x1) (val_main_call1_v3 (F := F) x0 x1) (val_main_v15 (F := F) x0 x1)
/-- `val_main_call1_v4` read at an index, from its operands read at an index. -/
theorem val_main_call1_v4_apply (x0 : (⟨S32x1024x64, .f32⟩ : BufTy).Contents (Elt F)) (x1 : (⟨S1024x64, .f32⟩ : BufTy).Contents (Elt F)) (i : S32768.Idx) :
    val_main_call1_v4 (F := F) x0 x1 i = Scalar.select (val_main_call1_v1 (F := F) x0 x1 i) (val_main_call1_v3 (F := F) x0 x1 i) (val_main_v15 (F := F) x0 x1 i) := rfl

/-- In the called function `_take`: the value written by `%5 = stablehlo.broadcast_in_dim %4, dims = [0] : (tensor<32768xi32>) -> tensor<32768x1xi32>`. -/
def val_main_call1_v5 (x0 : (⟨S32x1024x64, .f32⟩ : BufTy).Contents (Elt F)) (x1 : (⟨S1024x64, .f32⟩ : BufTy).Contents (Elt F)) : (⟨S32768x1, .i32⟩ : BufTy).Contents (Elt F) :=
  broadcastInDim S32768x1 ![0] bcast_S32768_S32768x1_0 (val_main_call1_v4 (F := F) x0 x1)
/-- The operand index that the value reads for a given index of its own. -/
abbrev idx_main_call1_v5 (i : S32768x1.Idx) : S32768.Idx := fun a => match a with
  | ⟨0, _⟩ => ⟨(i 0).val, (i 0).isLt⟩
/-- `val_main_call1_v5` read at an index, from its operands read at an index. -/
theorem val_main_call1_v5_apply (x0 : (⟨S32x1024x64, .f32⟩ : BufTy).Contents (Elt F)) (x1 : (⟨S1024x64, .f32⟩ : BufTy).Contents (Elt F)) (i : S32768x1.Idx) :
    val_main_call1_v5 (F := F) x0 x1 i = val_main_call1_v4 (F := F) x0 x1 (idx_main_call1_v5 i) := by
  unfold val_main_call1_v5
  generalize val_main_call1_v4 (F := F) x0 x1 = y
  exact broadcastInDim_apply _ bcast_S32768_S32768x1_0 y i (idx_main_call1_v5 i) (fun a => match a with
    | ⟨0, _⟩ => by show (i 0).val = if (32768 : Nat) = 1 then 0 else (i 0).val; rw [if_neg (by decide)])

/-- In the called function `_take`: the value written by `%c_1 = stablehlo.constant dense<1023> : tensor<1xi32>`. -/
def val_main_call1_c_1 : (⟨S1, .i32⟩ : BufTy).Contents (Elt F) :=
  constantI S1 32 1023#32
/-- `val_main_call1_c_1` read at an index, from its operands read at an index. -/
theorem val_main_call1_c_1_apply (i : S1.Idx) :
    val_main_call1_c_1 (F := F) i = 1023#32 := rfl

/-- In the called function `_take`: the value written by `%c_2 = stablehlo.constant dense<0> : tensor<i32>`. -/
def val_main_call1_c_2 : (⟨S_, .i32⟩ : BufTy).Contents (Elt F) :=
  constantI S_ 32 0#32
/-- `val_main_call1_c_2` read at an index, from its operands read at an index. -/
theorem val_main_call1_c_2_apply (i : S_.Idx) :
    val_main_call1_c_2 (F := F) i = 0#32 := rfl

/-- In the called function `_take`: the value written by `%6 = stablehlo.broadcast_in_dim %c_2, dims = [] : (tensor<i32>) -> tensor<32768x1xi32>`. -/
def val_main_call1_v6 : (⟨S32768x1, .i32⟩ : BufTy).Contents (Elt F) :=
  broadcastInDim S32768x1 ![] bcast_S_S32768x1 (val_main_call1_c_2 (F := F))
/-- The operand index that the value reads for a given index of its own. -/
abbrev idx_main_call1_v6 (i : S32768x1.Idx) : S_.Idx := fun a => a.elim0
/-- `val_main_call1_v6` read at an index, from its operands read at an index. -/
theorem val_main_call1_v6_apply (i : S32768x1.Idx) :
    val_main_call1_v6 (F := F) i = val_main_call1_c_2 (F := F) (idx_main_call1_v6 i) := by
  unfold val_main_call1_v6
  generalize val_main_call1_c_2 (F := F) = y
  exact broadcastInDim_apply _ bcast_S_S32768x1 y i (idx_main_call1_v6 i) (fun a => a.elim0)

/-- In the called function `_take`: the value written by `%7 = stablehlo.compare GE, %5, %6, SIGNED : (tensor<32768x1xi32>, tensor<32768x1xi32>) -> tensor<32768x1xi1>`. -/
def val_main_call1_v7 (x0 : (⟨S32x1024x64, .f32⟩ : BufTy).Contents (Elt F)) (x1 : (⟨S1024x64, .f32⟩ : BufTy).Contents (Elt F)) : (⟨S32768x1, .i1⟩ : BufTy).Contents (Elt F) :=
  cmpi .sge (val_main_call1_v5 (F := F) x0 x1) (val_main_call1_v6 (F := F))
/-- `val_main_call1_v7` read at an index, from its operands read at an index. -/
theorem val_main_call1_v7_apply (x0 : (⟨S32x1024x64, .f32⟩ : BufTy).Contents (Elt F)) (x1 : (⟨S1024x64, .f32⟩ : BufTy).Contents (Elt F)) (i : S32768x1.Idx) :
    val_main_call1_v7 (F := F) x0 x1 i = IntOp.cmpi .sge (val_main_call1_v5 (F := F) x0 x1 i) (val_main_call1_v6 (F := F) i) := rfl

/-- In the called function `_take`: the value written by `%8 = stablehlo.broadcast_in_dim %c_1, dims = [1] : (tensor<1xi32>) -> tensor<1x1xi32>`. -/
def val_main_call1_v8 : (⟨S1x1, .i32⟩ : BufTy).Contents (Elt F) :=
  broadcastInDim S1x1 ![1] bcast_S1_S1x1_1 (val_main_call1_c_1 (F := F))
/-- The operand index that the value reads for a given index of its own. -/
abbrev idx_main_call1_v8 (i : S1x1.Idx) : S1.Idx := fun a => match a with
  | ⟨0, _⟩ => ⟨0, Nat.one_pos⟩
/-- `val_main_call1_v8` read at an index, from its operands read at an index. -/
theorem val_main_call1_v8_apply (i : S1x1.Idx) :
    val_main_call1_v8 (F := F) i = val_main_call1_c_1 (F := F) (idx_main_call1_v8 i) := by
  unfold val_main_call1_v8
  generalize val_main_call1_c_1 (F := F) = y
  exact broadcastInDim_apply _ bcast_S1_S1x1_1 y i (idx_main_call1_v8 i) (fun a => match a with
    | ⟨0, _⟩ => by show 0 = if (1 : Nat) = 1 then 0 else (i 1).val; rw [if_pos rfl])

/-- In the called function `_take`: the value written by `%9 = stablehlo.broadcast_in_dim %8, dims = [0, 1] : (tensor<1x1xi32>) -> tensor<32768x1xi32>`. -/
def val_main_call1_v9 : (⟨S32768x1, .i32⟩ : BufTy).Contents (Elt F) :=
  broadcastInDim S32768x1 ![0, 1] bcast_S1x1_S32768x1_0_1 (val_main_call1_v8 (F := F))
/-- The operand index that the value reads for a given index of its own. -/
abbrev idx_main_call1_v9 (i : S32768x1.Idx) : S1x1.Idx := fun a => match a with
  | ⟨0, _⟩ => ⟨0, Nat.one_pos⟩
  | ⟨1, _⟩ => ⟨0, Nat.one_pos⟩
/-- `val_main_call1_v9` read at an index, from its operands read at an index. -/
theorem val_main_call1_v9_apply (i : S32768x1.Idx) :
    val_main_call1_v9 (F := F) i = val_main_call1_v8 (F := F) (idx_main_call1_v9 i) := by
  unfold val_main_call1_v9
  generalize val_main_call1_v8 (F := F) = y
  exact broadcastInDim_apply _ bcast_S1x1_S32768x1_0_1 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- In the called function `_take`: the value written by `%10 = stablehlo.compare LE, %5, %9, SIGNED : (tensor<32768x1xi32>, tensor<32768x1xi32>) -> tensor<32768x1xi1>`. -/
def val_main_call1_v10 (x0 : (⟨S32x1024x64, .f32⟩ : BufTy).Contents (Elt F)) (x1 : (⟨S1024x64, .f32⟩ : BufTy).Contents (Elt F)) : (⟨S32768x1, .i1⟩ : BufTy).Contents (Elt F) :=
  cmpi .sle (val_main_call1_v5 (F := F) x0 x1) (val_main_call1_v9 (F := F))
/-- `val_main_call1_v10` read at an index, from its operands read at an index. -/
theorem val_main_call1_v10_apply (x0 : (⟨S32x1024x64, .f32⟩ : BufTy).Contents (Elt F)) (x1 : (⟨S1024x64, .f32⟩ : BufTy).Contents (Elt F)) (i : S32768x1.Idx) :
    val_main_call1_v10 (F := F) x0 x1 i = IntOp.cmpi .sle (val_main_call1_v5 (F := F) x0 x1 i) (val_main_call1_v9 (F := F) i) := rfl

/-- In the called function `_take`: the value written by `%11 = stablehlo.and %7, %10 : tensor<32768x1xi1>`. -/
def val_main_call1_v11 (x0 : (⟨S32x1024x64, .f32⟩ : BufTy).Contents (Elt F)) (x1 : (⟨S1024x64, .f32⟩ : BufTy).Contents (Elt F)) : (⟨S32768x1, .i1⟩ : BufTy).Contents (Elt F) :=
  andi (val_main_call1_v7 (F := F) x0 x1) (val_main_call1_v10 (F := F) x0 x1)
/-- `val_main_call1_v11` read at an index, from its operands read at an index. -/
theorem val_main_call1_v11_apply (x0 : (⟨S32x1024x64, .f32⟩ : BufTy).Contents (Elt F)) (x1 : (⟨S1024x64, .f32⟩ : BufTy).Contents (Elt F)) (i : S32768x1.Idx) :
    val_main_call1_v11 (F := F) x0 x1 i = IntOp.andi (val_main_call1_v7 (F := F) x0 x1 i) (val_main_call1_v10 (F := F) x0 x1 i) := rfl

/-- In the called function `_take`: the value written by `%c_3 = stablehlo.constant dense<true> : tensor<i1>`. -/
def val_main_call1_c_3 : (⟨S_, .i1⟩ : BufTy).Contents (Elt F) :=
  constantI S_ 1 1#1
/-- `val_main_call1_c_3` read at an index, from its operands read at an index. -/
theorem val_main_call1_c_3_apply (i : S_.Idx) :
    val_main_call1_c_3 (F := F) i = 1#1 := rfl

/-- In the called function `_take`: the value written by `%12 = stablehlo.reduce(%11 init: %c_3) applies stablehlo.and across dimensions = [1] : (tensor<32768x1xi1>, tensor<i1>) -> tensor<32768xi1> {`. -/
def val_main_call1_v12 (x0 : (⟨S32x1024x64, .f32⟩ : BufTy).Contents (Elt F)) (x1 : (⟨S1024x64, .f32⟩ : BufTy).Contents (Elt F)) : (⟨S32768, .i1⟩ : BufTy).Contents (Elt F) :=
  Host.reduce IntOp.andi (val_main_call1_v11 (F := F) x0 x1) (val_main_call1_c_3 (F := F)) reducesTo_S32768x1_S32768_d1 h_S_

/-- In the called function `_take`: the value written by `%13 = "stablehlo.gather"(%arg0, %5) <{dimension_numbers = #stablehlo.gather<offset_dims = [1], collapsed_slice_dims = [0], start_index_map = [0], index_vector_dim = 1>, indices_are_sorted = false, slice_sizes = array<i64: 1, 64>}> : (tensor<1024x64xf32>, tensor<32768x1xi32>) -> tensor<32768x64xf32>`. -/
def val_main_call1_v13 (x0 : (⟨S32x1024x64, .f32⟩ : BufTy).Contents (Elt F)) (x1 : (⟨S1024x64, .f32⟩ : BufTy).Contents (Elt F)) : (⟨S32768x64, .f32⟩ : BufTy).Contents (Elt F) :=
  Host.gather gather_S1024x64_S32768x1_S32768x64_1_0_n_n_0_1_164 (x1) (val_main_call1_v5 (F := F) x0 x1)

/-- In the called function `_take`: the value written by `%14 = stablehlo.broadcast_in_dim %12, dims = [0] : (tensor<32768xi1>) -> tensor<32768x64xi1>`. -/
def val_main_call1_v14 (x0 : (⟨S32x1024x64, .f32⟩ : BufTy).Contents (Elt F)) (x1 : (⟨S1024x64, .f32⟩ : BufTy).Contents (Elt F)) : (⟨S32768x64, .i1⟩ : BufTy).Contents (Elt F) :=
  broadcastInDim S32768x64 ![0] bcast_S32768_S32768x64_0 (val_main_call1_v12 (F := F) x0 x1)
/-- The operand index that the value reads for a given index of its own. -/
abbrev idx_main_call1_v14 (i : S32768x64.Idx) : S32768.Idx := fun a => match a with
  | ⟨0, _⟩ => ⟨(i 0).val, (i 0).isLt⟩
/-- `val_main_call1_v14` read at an index, from its operands read at an index. -/
theorem val_main_call1_v14_apply (x0 : (⟨S32x1024x64, .f32⟩ : BufTy).Contents (Elt F)) (x1 : (⟨S1024x64, .f32⟩ : BufTy).Contents (Elt F)) (i : S32768x64.Idx) :
    val_main_call1_v14 (F := F) x0 x1 i = val_main_call1_v12 (F := F) x0 x1 (idx_main_call1_v14 i) := by
  unfold val_main_call1_v14
  generalize val_main_call1_v12 (F := F) x0 x1 = y
  exact broadcastInDim_apply _ bcast_S32768_S32768x64_0 y i (idx_main_call1_v14 i) (fun a => match a with
    | ⟨0, _⟩ => by show (i 0).val = if (32768 : Nat) = 1 then 0 else (i 0).val; rw [if_neg (by decide)])

/-- In the called function `_take`: the value written by `%cst = stablehlo.constant dense<0x7FC00000> : tensor<f32>`. -/
def val_main_call1_cst : (⟨S_, .f32⟩ : BufTy).Contents (Elt F) :=
  constant S_ .f32 0x7FC00000#32
/-- `val_main_call1_cst` read at an index, from its operands read at an index. -/
theorem val_main_call1_cst_apply (i : S_.Idx) :
    val_main_call1_cst (F := F) i = FloatOps.ofBits .f32 0x7FC00000#32 := rfl

/-- In the called function `_take`: the value written by `%15 = stablehlo.broadcast_in_dim %cst, dims = [] : (tensor<f32>) -> tensor<32768x64xf32>`. -/
def val_main_call1_v15 : (⟨S32768x64, .f32⟩ : BufTy).Contents (Elt F) :=
  broadcastInDim S32768x64 ![] bcast_S_S32768x64 (val_main_call1_cst (F := F))
/-- The operand index that the value reads for a given index of its own. -/
abbrev idx_main_call1_v15 (i : S32768x64.Idx) : S_.Idx := fun a => a.elim0
/-- `val_main_call1_v15` read at an index, from its operands read at an index. -/
theorem val_main_call1_v15_apply (i : S32768x64.Idx) :
    val_main_call1_v15 (F := F) i = val_main_call1_cst (F := F) (idx_main_call1_v15 i) := by
  unfold val_main_call1_v15
  generalize val_main_call1_cst (F := F) = y
  exact broadcastInDim_apply _ bcast_S_S32768x64 y i (idx_main_call1_v15 i) (fun a => a.elim0)

/-- The value written by `%16 = func.call @_take(…) result 0: @_take's %16 = stablehlo.select %14, %13, %15 : tensor<32768x64xi1>, tensor<32768x64xf32>`. -/
def val_main_v16 (x0 : (⟨S32x1024x64, .f32⟩ : BufTy).Contents (Elt F)) (x1 : (⟨S1024x64, .f32⟩ : BufTy).Contents (Elt F)) : (⟨S32768x64, .f32⟩ : BufTy).Contents (Elt F) :=
  select (val_main_call1_v14 (F := F) x0 x1) (val_main_call1_v13 (F := F) x0 x1) (val_main_call1_v15 (F := F))
/-- `val_main_v16` read at an index, from its operands read at an index. -/
theorem val_main_v16_apply (x0 : (⟨S32x1024x64, .f32⟩ : BufTy).Contents (Elt F)) (x1 : (⟨S1024x64, .f32⟩ : BufTy).Contents (Elt F)) (i : S32768x64.Idx) :
    val_main_v16 (F := F) x0 x1 i = Scalar.select (val_main_call1_v14 (F := F) x0 x1 i) (val_main_call1_v13 (F := F) x0 x1 i) (val_main_call1_v15 (F := F) i) := rfl

/-- The value written by `%17 = stablehlo.reshape %16 : (tensor<32768x64xf32>) -> tensor<32x1024x64xf32>`. -/
def val_main_v17 (x0 : (⟨S32x1024x64, .f32⟩ : BufTy).Contents (Elt F)) (x1 : (⟨S1024x64, .f32⟩ : BufTy).Contents (Elt F)) : (⟨S32x1024x64, .f32⟩ : BufTy).Contents (Elt F) :=
  shapeCast _ (val_main_v16 (F := F) x0 x1) shapeCasts_S32768x64_S32x1024x64
set_option backward.proofsInPublic true in
/-- The operand index that the value reads for a given index of its own. -/
abbrev idx_main_v17 (i : S32x1024x64.Idx) : S32768x64.Idx := fun a => match a with
  | ⟨0, _⟩ => ⟨(((i 0).val * 1024 + (i 1).val) * 64 + (i 2).val) / 64, by have h0 : (i 0).val < 32 := (i 0).isLt; have h1 : (i 1).val < 1024 := (i 1).isLt; have h2 : (i 2).val < 64 := (i 2).isLt; show (((i 0).val * 1024 + (i 1).val) * 64 + (i 2).val) / 64 < 32768; omega⟩
  | ⟨1, _⟩ => ⟨(((i 0).val * 1024 + (i 1).val) * 64 + (i 2).val) % 64, by have h0 : (i 0).val < 32 := (i 0).isLt; have h1 : (i 1).val < 1024 := (i 1).isLt; have h2 : (i 2).val < 64 := (i 2).isLt; show (((i 0).val * 1024 + (i 1).val) * 64 + (i 2).val) % 64 < 64; omega⟩
/-- `val_main_v17` read at an index, from its operands read at an index. -/
theorem val_main_v17_apply (x0 : (⟨S32x1024x64, .f32⟩ : BufTy).Contents (Elt F)) (x1 : (⟨S1024x64, .f32⟩ : BufTy).Contents (Elt F)) (i : S32x1024x64.Idx) :
    val_main_v17 (F := F) x0 x1 i = val_main_v16 (F := F) x0 x1 (idx_main_v17 i) := by
  unfold val_main_v17
  generalize val_main_v16 (F := F) x0 x1 = y
  exact shapeCast_apply y shapeCasts_S32768x64_S32x1024x64 i (idx_main_v17 i)
    (by rewrite [Shape.rowMajor_val_two, Shape.rowMajor_val_three]; have h0 : (i 0).val < 32 := (i 0).isLt; have h1 : (i 1).val < 1024 := (i 1).isLt; have h2 : (i 2).val < 64 := (i 2).isLt; show (((i 0).val * 1024 + (i 1).val) * 64 + (i 2).val) / 64 * 64 + (((i 0).val * 1024 + (i 1).val) * 64 + (i 2).val) % 64 = ((i 0).val * 1024 + (i 1).val) * 64 + (i 2).val; omega)

/-- The value written by `%18 = stablehlo.subtract %arg0, %17 : tensor<32x1024x64xf32>`. -/
def val_main_v18 (x0 : (⟨S32x1024x64, .f32⟩ : BufTy).Contents (Elt F)) (x1 : (⟨S1024x64, .f32⟩ : BufTy).Contents (Elt F)) : (⟨S32x1024x64, .f32⟩ : BufTy).Contents (Elt F) :=
  subf (x0) (val_main_v17 (F := F) x0 x1)
/-- `val_main_v18` read at an index, from its operands read at an index. -/
theorem val_main_v18_apply (x0 : (⟨S32x1024x64, .f32⟩ : BufTy).Contents (Elt F)) (x1 : (⟨S1024x64, .f32⟩ : BufTy).Contents (Elt F)) (i : S32x1024x64.Idx) :
    val_main_v18 (F := F) x0 x1 i = FloatOps.subf (x0 i) (val_main_v17 (F := F) x0 x1 i) := rfl

/-- The value written by `%19 = stablehlo.multiply %18, %18 : tensor<32x1024x64xf32>`. -/
def val_main_v19 (x0 : (⟨S32x1024x64, .f32⟩ : BufTy).Contents (Elt F)) (x1 : (⟨S1024x64, .f32⟩ : BufTy).Contents (Elt F)) : (⟨S32x1024x64, .f32⟩ : BufTy).Contents (Elt F) :=
  mulf (val_main_v18 (F := F) x0 x1) (val_main_v18 (F := F) x0 x1)
/-- `val_main_v19` read at an index, from its operands read at an index. -/
theorem val_main_v19_apply (x0 : (⟨S32x1024x64, .f32⟩ : BufTy).Contents (Elt F)) (x1 : (⟨S1024x64, .f32⟩ : BufTy).Contents (Elt F)) (i : S32x1024x64.Idx) :
    val_main_v19 (F := F) x0 x1 i = FloatOps.mulf (val_main_v18 (F := F) x0 x1 i) (val_main_v18 (F := F) x0 x1 i) := rfl

/-- The value written by `%cst_2 = stablehlo.constant dense<0.000000e+00> : tensor<f32>`. -/
def val_main_cst_2 : (⟨S_, .f32⟩ : BufTy).Contents (Elt F) :=
  constant S_ .f32 0x00000000#32
/-- `val_main_cst_2` read at an index, from its operands read at an index. -/
theorem val_main_cst_2_apply (i : S_.Idx) :
    val_main_cst_2 (F := F) i = FloatOps.ofBits .f32 0x00000000#32 := rfl

/-- The value written by `%20 = stablehlo.reduce(%19 init: %cst_2) applies stablehlo.add across dimensions = [0, 1, 2] : (tensor<32x1024x64xf32>, tensor<f32>) -> tensor<f32> {`. -/
def val_main_v20 (x0 : (⟨S32x1024x64, .f32⟩ : BufTy).Contents (Elt F)) (x1 : (⟨S1024x64, .f32⟩ : BufTy).Contents (Elt F)) : (⟨S_, .f32⟩ : BufTy).Contents (Elt F) :=
  Host.reduceAdd (val_main_v19 (F := F) x0 x1) (val_main_cst_2 (F := F)) reducesTo_S32x1024x64_S_d0_1_2 h_S_
/-- Stated at `F := Ideal`, where the host's float sum is this sum. -/
theorem val_main_v20_apply (x0 : (⟨S32x1024x64, .f32⟩ : BufTy).Contents (Elt Ideal)) (x1 : (⟨S1024x64, .f32⟩ : BufTy).Contents (Elt Ideal)) (i : S_.Idx) :
    val_main_v20 (F := Ideal) x0 x1 i = (val_main_cst_2 (F := Ideal)) (Shape.Idx.first h_S_) + ∑ j : S32x1024x64.Idx, (val_main_v19 (F := Ideal) x0 x1) j := by
  unfold val_main_v20
  generalize val_main_v19 (F := Ideal) x0 x1 = y0
  simp only [Host.reduceAdd, Ideal.hostReduceAdd_def]
  exact Ideal.hostReduceAdd_total reducesTo_S32x1024x64_S_d0_1_2 (fun b => b.elim0) y0 _ i

/-- The value written by `%cst_3 = stablehlo.constant dense<0x4A000000> : tensor<f32>`. -/
def val_main_cst_3 : (⟨S_, .f32⟩ : BufTy).Contents (Elt F) :=
  constant S_ .f32 0x4A000000#32
/-- `val_main_cst_3` read at an index, from its operands read at an index. -/
theorem val_main_cst_3_apply (i : S_.Idx) :
    val_main_cst_3 (F := F) i = FloatOps.ofBits .f32 0x4A000000#32 := rfl

/-- The value written by `%21 = stablehlo.divide %20, %cst_3 : tensor<f32>`. -/
def val_main_v21 (x0 : (⟨S32x1024x64, .f32⟩ : BufTy).Contents (Elt F)) (x1 : (⟨S1024x64, .f32⟩ : BufTy).Contents (Elt F)) : (⟨S_, .f32⟩ : BufTy).Contents (Elt F) :=
  Host.divf (val_main_v20 (F := F) x0 x1) (val_main_cst_3 (F := F))
/-- `val_main_v21` read at an index, from its operands read at an index. -/
theorem val_main_v21_apply (x0 : (⟨S32x1024x64, .f32⟩ : BufTy).Contents (Elt F)) (x1 : (⟨S1024x64, .f32⟩ : BufTy).Contents (Elt F)) (i : S_.Idx) :
    val_main_v21 (F := F) x0 x1 i = FloatOps.hostDivf (val_main_v20 (F := F) x0 x1 i) (val_main_cst_3 (F := F) i) := rfl

/-- The value written by `%22 = stablehlo.subtract %arg0, %17 : tensor<32x1024x64xf32>`. -/
def val_main_v22 (x0 : (⟨S32x1024x64, .f32⟩ : BufTy).Contents (Elt F)) (x1 : (⟨S1024x64, .f32⟩ : BufTy).Contents (Elt F)) : (⟨S32x1024x64, .f32⟩ : BufTy).Contents (Elt F) :=
  subf (x0) (val_main_v17 (F := F) x0 x1)
/-- `val_main_v22` read at an index, from its operands read at an index. -/
theorem val_main_v22_apply (x0 : (⟨S32x1024x64, .f32⟩ : BufTy).Contents (Elt F)) (x1 : (⟨S1024x64, .f32⟩ : BufTy).Contents (Elt F)) (i : S32x1024x64.Idx) :
    val_main_v22 (F := F) x0 x1 i = FloatOps.subf (x0 i) (val_main_v17 (F := F) x0 x1 i) := rfl

/-- The value written by `%23 = stablehlo.multiply %22, %22 : tensor<32x1024x64xf32>`. -/
def val_main_v23 (x0 : (⟨S32x1024x64, .f32⟩ : BufTy).Contents (Elt F)) (x1 : (⟨S1024x64, .f32⟩ : BufTy).Contents (Elt F)) : (⟨S32x1024x64, .f32⟩ : BufTy).Contents (Elt F) :=
  mulf (val_main_v22 (F := F) x0 x1) (val_main_v22 (F := F) x0 x1)
/-- `val_main_v23` read at an index, from its operands read at an index. -/
theorem val_main_v23_apply (x0 : (⟨S32x1024x64, .f32⟩ : BufTy).Contents (Elt F)) (x1 : (⟨S1024x64, .f32⟩ : BufTy).Contents (Elt F)) (i : S32x1024x64.Idx) :
    val_main_v23 (F := F) x0 x1 i = FloatOps.mulf (val_main_v22 (F := F) x0 x1 i) (val_main_v22 (F := F) x0 x1 i) := rfl

/-- The value written by `%cst_4 = stablehlo.constant dense<0.000000e+00> : tensor<f32>`. -/
def val_main_cst_4 : (⟨S_, .f32⟩ : BufTy).Contents (Elt F) :=
  constant S_ .f32 0x00000000#32
/-- `val_main_cst_4` read at an index, from its operands read at an index. -/
theorem val_main_cst_4_apply (i : S_.Idx) :
    val_main_cst_4 (F := F) i = FloatOps.ofBits .f32 0x00000000#32 := rfl

/-- The value written by `%24 = stablehlo.reduce(%23 init: %cst_4) applies stablehlo.add across dimensions = [0, 1, 2] : (tensor<32x1024x64xf32>, tensor<f32>) -> tensor<f32> {`. -/
def val_main_v24 (x0 : (⟨S32x1024x64, .f32⟩ : BufTy).Contents (Elt F)) (x1 : (⟨S1024x64, .f32⟩ : BufTy).Contents (Elt F)) : (⟨S_, .f32⟩ : BufTy).Contents (Elt F) :=
  Host.reduceAdd (val_main_v23 (F := F) x0 x1) (val_main_cst_4 (F := F)) reducesTo_S32x1024x64_S_d0_1_2 h_S_
/-- Stated at `F := Ideal`, where the host's float sum is this sum. -/
theorem val_main_v24_apply (x0 : (⟨S32x1024x64, .f32⟩ : BufTy).Contents (Elt Ideal)) (x1 : (⟨S1024x64, .f32⟩ : BufTy).Contents (Elt Ideal)) (i : S_.Idx) :
    val_main_v24 (F := Ideal) x0 x1 i = (val_main_cst_4 (F := Ideal)) (Shape.Idx.first h_S_) + ∑ j : S32x1024x64.Idx, (val_main_v23 (F := Ideal) x0 x1) j := by
  unfold val_main_v24
  generalize val_main_v23 (F := Ideal) x0 x1 = y0
  simp only [Host.reduceAdd, Ideal.hostReduceAdd_def]
  exact Ideal.hostReduceAdd_total reducesTo_S32x1024x64_S_d0_1_2 (fun b => b.elim0) y0 _ i

/-- The value written by `%cst_5 = stablehlo.constant dense<0x4A000000> : tensor<f32>`. -/
def val_main_cst_5 : (⟨S_, .f32⟩ : BufTy).Contents (Elt F) :=
  constant S_ .f32 0x4A000000#32
/-- `val_main_cst_5` read at an index, from its operands read at an index. -/
theorem val_main_cst_5_apply (i : S_.Idx) :
    val_main_cst_5 (F := F) i = FloatOps.ofBits .f32 0x4A000000#32 := rfl

/-- The value written by `%25 = stablehlo.divide %24, %cst_5 : tensor<f32>`. -/
def val_main_v25 (x0 : (⟨S32x1024x64, .f32⟩ : BufTy).Contents (Elt F)) (x1 : (⟨S1024x64, .f32⟩ : BufTy).Contents (Elt F)) : (⟨S_, .f32⟩ : BufTy).Contents (Elt F) :=
  Host.divf (val_main_v24 (F := F) x0 x1) (val_main_cst_5 (F := F))
/-- `val_main_v25` read at an index, from its operands read at an index. -/
theorem val_main_v25_apply (x0 : (⟨S32x1024x64, .f32⟩ : BufTy).Contents (Elt F)) (x1 : (⟨S1024x64, .f32⟩ : BufTy).Contents (Elt F)) (i : S_.Idx) :
    val_main_v25 (F := F) x0 x1 i = FloatOps.hostDivf (val_main_v24 (F := F) x0 x1 i) (val_main_cst_5 (F := F) i) := rfl

/-- The value written by `%26 = stablehlo.subtract %17, %arg0 : tensor<32x1024x64xf32>`. -/
def val_main_v26 (x0 : (⟨S32x1024x64, .f32⟩ : BufTy).Contents (Elt F)) (x1 : (⟨S1024x64, .f32⟩ : BufTy).Contents (Elt F)) : (⟨S32x1024x64, .f32⟩ : BufTy).Contents (Elt F) :=
  subf (val_main_v17 (F := F) x0 x1) (x0)
/-- `val_main_v26` read at an index, from its operands read at an index. -/
theorem val_main_v26_apply (x0 : (⟨S32x1024x64, .f32⟩ : BufTy).Contents (Elt F)) (x1 : (⟨S1024x64, .f32⟩ : BufTy).Contents (Elt F)) (i : S32x1024x64.Idx) :
    val_main_v26 (F := F) x0 x1 i = FloatOps.subf (val_main_v17 (F := F) x0 x1 i) (x0 i) := rfl

/-- The value written by `%27 = stablehlo.add %arg0, %26 : tensor<32x1024x64xf32>`. -/
def val_main_v27 (x0 : (⟨S32x1024x64, .f32⟩ : BufTy).Contents (Elt F)) (x1 : (⟨S1024x64, .f32⟩ : BufTy).Contents (Elt F)) : (⟨S32x1024x64, .f32⟩ : BufTy).Contents (Elt F) :=
  addf (x0) (val_main_v26 (F := F) x0 x1)
/-- `val_main_v27` read at an index, from its operands read at an index. -/
theorem val_main_v27_apply (x0 : (⟨S32x1024x64, .f32⟩ : BufTy).Contents (Elt F)) (x1 : (⟨S1024x64, .f32⟩ : BufTy).Contents (Elt F)) (i : S32x1024x64.Idx) :
    val_main_v27 (F := F) x0 x1 i = FloatOps.addf (x0 i) (val_main_v26 (F := F) x0 x1 i) := rfl

/-- The value written by `%cst_6 = stablehlo.constant dense<2.500000e-01> : tensor<f32>`. -/
def val_main_cst_6 : (⟨S_, .f32⟩ : BufTy).Contents (Elt F) :=
  constant S_ .f32 0x3E800000#32
/-- `val_main_cst_6` read at an index, from its operands read at an index. -/
theorem val_main_cst_6_apply (i : S_.Idx) :
    val_main_cst_6 (F := F) i = FloatOps.ofBits .f32 0x3E800000#32 := rfl

/-- The value written by `%28 = stablehlo.multiply %cst_6, %21 : tensor<f32>`. -/
def val_main_v28 (x0 : (⟨S32x1024x64, .f32⟩ : BufTy).Contents (Elt F)) (x1 : (⟨S1024x64, .f32⟩ : BufTy).Contents (Elt F)) : (⟨S_, .f32⟩ : BufTy).Contents (Elt F) :=
  mulf (val_main_cst_6 (F := F)) (val_main_v21 (F := F) x0 x1)
/-- `val_main_v28` read at an index, from its operands read at an index. -/
theorem val_main_v28_apply (x0 : (⟨S32x1024x64, .f32⟩ : BufTy).Contents (Elt F)) (x1 : (⟨S1024x64, .f32⟩ : BufTy).Contents (Elt F)) (i : S_.Idx) :
    val_main_v28 (F := F) x0 x1 i = FloatOps.mulf (val_main_cst_6 (F := F) i) (val_main_v21 (F := F) x0 x1 i) := rfl

/-- The value written by `%29 = stablehlo.add %25, %28 : tensor<f32>`. -/
def val_main_v29 (x0 : (⟨S32x1024x64, .f32⟩ : BufTy).Contents (Elt F)) (x1 : (⟨S1024x64, .f32⟩ : BufTy).Contents (Elt F)) : (⟨S_, .f32⟩ : BufTy).Contents (Elt F) :=
  addf (val_main_v25 (F := F) x0 x1) (val_main_v28 (F := F) x0 x1)
/-- `val_main_v29` read at an index, from its operands read at an index. -/
theorem val_main_v29_apply (x0 : (⟨S32x1024x64, .f32⟩ : BufTy).Contents (Elt F)) (x1 : (⟨S1024x64, .f32⟩ : BufTy).Contents (Elt F)) (i : S_.Idx) :
    val_main_v29 (F := F) x0 x1 i = FloatOps.addf (val_main_v25 (F := F) x0 x1 i) (val_main_v28 (F := F) x0 x1 i) := rfl

/-- The value written by `%c = stablehlo.constant dense<0> : tensor<i32>`. -/
def val_main_c : (⟨S_, .i32⟩ : BufTy).Contents (Elt F) :=
  constantI S_ 32 0#32
/-- `val_main_c` read at an index, from its operands read at an index. -/
theorem val_main_c_apply (i : S_.Idx) :
    val_main_c (F := F) i = 0#32 := rfl

/-- The value written by `%30 = stablehlo.broadcast_in_dim %c, dims = [] : (tensor<i32>) -> tensor<1024xi32>`. -/
def val_main_v30 : (⟨S1024, .i32⟩ : BufTy).Contents (Elt F) :=
  broadcastInDim S1024 ![] bcast_S_S1024 (val_main_c (F := F))
/-- The operand index that the value reads for a given index of its own. -/
abbrev idx_main_v30 (i : S1024.Idx) : S_.Idx := fun a => a.elim0
/-- `val_main_v30` read at an index, from its operands read at an index. -/
theorem val_main_v30_apply (i : S1024.Idx) :
    val_main_v30 (F := F) i = val_main_c (F := F) (idx_main_v30 i) := by
  unfold val_main_v30
  generalize val_main_c (F := F) = y
  exact broadcastInDim_apply _ bcast_S_S1024 y i (idx_main_v30 i) (fun a => a.elim0)

/-- The value written by `%c_7 = stablehlo.constant dense<0> : tensor<i32>`. -/
def val_main_c_7 : (⟨S_, .i32⟩ : BufTy).Contents (Elt F) :=
  constantI S_ 32 0#32
/-- `val_main_c_7` read at an index, from its operands read at an index. -/
theorem val_main_c_7_apply (i : S_.Idx) :
    val_main_c_7 (F := F) i = 0#32 := rfl

/-- In the called function `clip`: the value written by `%0 = stablehlo.convert %arg1 : tensor<i32>`. -/
def val_main_call2_v0 : (⟨S_, .i32⟩ : BufTy).Contents (Elt F) :=
  id (val_main_c_7 (F := F))
/-- `val_main_call2_v0` read at an index, from its operands read at an index. -/
theorem val_main_call2_v0_apply (i : S_.Idx) :
    val_main_call2_v0 (F := F) i = (val_main_c_7 (F := F) i) := rfl

/-- In the called function `clip`: the value written by `%1 = stablehlo.broadcast_in_dim %0, dims = [] : (tensor<i32>) -> tensor<32768xi32>`. -/
def val_main_call2_v1 : (⟨S32768, .i32⟩ : BufTy).Contents (Elt F) :=
  broadcastInDim S32768 ![] bcast_S_S32768 (val_main_call2_v0 (F := F))
/-- The operand index that the value reads for a given index of its own. -/
abbrev idx_main_call2_v1 (i : S32768.Idx) : S_.Idx := fun a => a.elim0
/-- `val_main_call2_v1` read at an index, from its operands read at an index. -/
theorem val_main_call2_v1_apply (i : S32768.Idx) :
    val_main_call2_v1 (F := F) i = val_main_call2_v0 (F := F) (idx_main_call2_v1 i) := by
  unfold val_main_call2_v1
  generalize val_main_call2_v0 (F := F) = y
  exact broadcastInDim_apply _ bcast_S_S32768 y i (idx_main_call2_v1 i) (fun a => a.elim0)

/-- The value written by `%31 = func.call @clip(…) result 0: @clip's %2 = stablehlo.maximum %1, %arg0 : tensor<32768xi32>`. -/
def val_main_v31 (x0 : (⟨S32x1024x64, .f32⟩ : BufTy).Contents (Elt F)) (x1 : (⟨S1024x64, .f32⟩ : BufTy).Contents (Elt F)) : (⟨S32768, .i32⟩ : BufTy).Contents (Elt F) :=
  maxsi (val_main_call2_v1 (F := F)) (val_main_v15 (F := F) x0 x1)
/-- `val_main_v31` read at an index, from its operands read at an index. -/
theorem val_main_v31_apply (x0 : (⟨S32x1024x64, .f32⟩ : BufTy).Contents (Elt F)) (x1 : (⟨S1024x64, .f32⟩ : BufTy).Contents (Elt F)) (i : S32768.Idx) :
    val_main_v31 (F := F) x0 x1 i = IntOp.maxsi (val_main_call2_v1 (F := F) i) (val_main_v15 (F := F) x0 x1 i) := rfl

/-- The value written by `%c_8 = stablehlo.constant dense<0> : tensor<i32>`. -/
def val_main_c_8 : (⟨S_, .i32⟩ : BufTy).Contents (Elt F) :=
  constantI S_ 32 0#32
/-- `val_main_c_8` read at an index, from its operands read at an index. -/
theorem val_main_c_8_apply (i : S_.Idx) :
    val_main_c_8 (F := F) i = 0#32 := rfl

/-- The value written by `%32 = stablehlo.broadcast_in_dim %c_8, dims = [] : (tensor<i32>) -> tensor<32768xi32>`. -/
def val_main_v32 : (⟨S32768, .i32⟩ : BufTy).Contents (Elt F) :=
  broadcastInDim S32768 ![] bcast_S_S32768 (val_main_c_8 (F := F))
/-- The operand index that the value reads for a given index of its own. -/
abbrev idx_main_v32 (i : S32768.Idx) : S_.Idx := fun a => a.elim0
/-- `val_main_v32` read at an index, from its operands read at an index. -/
theorem val_main_v32_apply (i : S32768.Idx) :
    val_main_v32 (F := F) i = val_main_c_8 (F := F) (idx_main_v32 i) := by
  unfold val_main_v32
  generalize val_main_c_8 (F := F) = y
  exact broadcastInDim_apply _ bcast_S_S32768 y i (idx_main_v32 i) (fun a => a.elim0)

/-- The value written by `%33 = stablehlo.compare LT, %31, %32, SIGNED : (tensor<32768xi32>, tensor<32768xi32>) -> tensor<32768xi1>`. -/
def val_main_v33 (x0 : (⟨S32x1024x64, .f32⟩ : BufTy).Contents (Elt F)) (x1 : (⟨S1024x64, .f32⟩ : BufTy).Contents (Elt F)) : (⟨S32768, .i1⟩ : BufTy).Contents (Elt F) :=
  cmpi .slt (val_main_v31 (F := F) x0 x1) (val_main_v32 (F := F))
/-- `val_main_v33` read at an index, from its operands read at an index. -/
theorem val_main_v33_apply (x0 : (⟨S32x1024x64, .f32⟩ : BufTy).Contents (Elt F)) (x1 : (⟨S1024x64, .f32⟩ : BufTy).Contents (Elt F)) (i : S32768.Idx) :
    val_main_v33 (F := F) x0 x1 i = IntOp.cmpi .slt (val_main_v31 (F := F) x0 x1 i) (val_main_v32 (F := F) i) := rfl

/-- The value written by `%c_9 = stablehlo.constant dense<1024> : tensor<i32>`. -/
def val_main_c_9 : (⟨S_, .i32⟩ : BufTy).Contents (Elt F) :=
  constantI S_ 32 1024#32
/-- `val_main_c_9` read at an index, from its operands read at an index. -/
theorem val_main_c_9_apply (i : S_.Idx) :
    val_main_c_9 (F := F) i = 1024#32 := rfl

/-- The value written by `%34 = stablehlo.broadcast_in_dim %c_9, dims = [] : (tensor<i32>) -> tensor<32768xi32>`. -/
def val_main_v34 : (⟨S32768, .i32⟩ : BufTy).Contents (Elt F) :=
  broadcastInDim S32768 ![] bcast_S_S32768 (val_main_c_9 (F := F))
/-- The operand index that the value reads for a given index of its own. -/
abbrev idx_main_v34 (i : S32768.Idx) : S_.Idx := fun a => a.elim0
/-- `val_main_v34` read at an index, from its operands read at an index. -/
theorem val_main_v34_apply (i : S32768.Idx) :
    val_main_v34 (F := F) i = val_main_c_9 (F := F) (idx_main_v34 i) := by
  unfold val_main_v34
  generalize val_main_c_9 (F := F) = y
  exact broadcastInDim_apply _ bcast_S_S32768 y i (idx_main_v34 i) (fun a => a.elim0)

/-- The value written by `%35 = stablehlo.add %31, %34 : tensor<32768xi32>`. -/
def val_main_v35 (x0 : (⟨S32x1024x64, .f32⟩ : BufTy).Contents (Elt F)) (x1 : (⟨S1024x64, .f32⟩ : BufTy).Contents (Elt F)) : (⟨S32768, .i32⟩ : BufTy).Contents (Elt F) :=
  addi (val_main_v31 (F := F) x0 x1) (val_main_v34 (F := F))
/-- `val_main_v35` read at an index, from its operands read at an index. -/
theorem val_main_v35_apply (x0 : (⟨S32x1024x64, .f32⟩ : BufTy).Contents (Elt F)) (x1 : (⟨S1024x64, .f32⟩ : BufTy).Contents (Elt F)) (i : S32768.Idx) :
    val_main_v35 (F := F) x0 x1 i = IntOp.addi (val_main_v31 (F := F) x0 x1 i) (val_main_v34 (F := F) i) := rfl

/-- The value written by `%36 = stablehlo.select %33, %35, %31 : tensor<32768xi1>, tensor<32768xi32>`. -/
def val_main_v36 (x0 : (⟨S32x1024x64, .f32⟩ : BufTy).Contents (Elt F)) (x1 : (⟨S1024x64, .f32⟩ : BufTy).Contents (Elt F)) : (⟨S32768, .i32⟩ : BufTy).Contents (Elt F) :=
  select (val_main_v33 (F := F) x0 x1) (val_main_v35 (F := F) x0 x1) (val_main_v31 (F := F) x0 x1)
/-- `val_main_v36` read at an index, from its operands read at an index. -/
theorem val_main_v36_apply (x0 : (⟨S32x1024x64, .f32⟩ : BufTy).Contents (Elt F)) (x1 : (⟨S1024x64, .f32⟩ : BufTy).Contents (Elt F)) (i : S32768.Idx) :
    val_main_v36 (F := F) x0 x1 i = Scalar.select (val_main_v33 (F := F) x0 x1 i) (val_main_v35 (F := F) x0 x1 i) (val_main_v31 (F := F) x0 x1 i) := rfl

/-- The value written by `%37 = stablehlo.broadcast_in_dim %36, dims = [0] : (tensor<32768xi32>) -> tensor<32768x1xi32>`. -/
def val_main_v37 (x0 : (⟨S32x1024x64, .f32⟩ : BufTy).Contents (Elt F)) (x1 : (⟨S1024x64, .f32⟩ : BufTy).Contents (Elt F)) : (⟨S32768x1, .i32⟩ : BufTy).Contents (Elt F) :=
  broadcastInDim S32768x1 ![0] bcast_S32768_S32768x1_0 (val_main_v36 (F := F) x0 x1)
/-- The operand index that the value reads for a given index of its own. -/
abbrev idx_main_v37 (i : S32768x1.Idx) : S32768.Idx := fun a => match a with
  | ⟨0, _⟩ => ⟨(i 0).val, (i 0).isLt⟩
/-- `val_main_v37` read at an index, from its operands read at an index. -/
theorem val_main_v37_apply (x0 : (⟨S32x1024x64, .f32⟩ : BufTy).Contents (Elt F)) (x1 : (⟨S1024x64, .f32⟩ : BufTy).Contents (Elt F)) (i : S32768x1.Idx) :
    val_main_v37 (F := F) x0 x1 i = val_main_v36 (F := F) x0 x1 (idx_main_v37 i) := by
  unfold val_main_v37
  generalize val_main_v36 (F := F) x0 x1 = y
  exact broadcastInDim_apply _ bcast_S32768_S32768x1_0 y i (idx_main_v37 i) (fun a => match a with
    | ⟨0, _⟩ => by show (i 0).val = if (32768 : Nat) = 1 then 0 else (i 0).val; rw [if_neg (by decide)])

/-- The value written by `%c_10 = stablehlo.constant dense<1> : tensor<i32>`. -/
def val_main_c_10 : (⟨S_, .i32⟩ : BufTy).Contents (Elt F) :=
  constantI S_ 32 1#32
/-- `val_main_c_10` read at an index, from its operands read at an index. -/
theorem val_main_c_10_apply (i : S_.Idx) :
    val_main_c_10 (F := F) i = 1#32 := rfl

/-- The value written by `%38 = stablehlo.broadcast_in_dim %c_10, dims = [] : (tensor<i32>) -> tensor<32768xi32>`. -/
def val_main_v38 : (⟨S32768, .i32⟩ : BufTy).Contents (Elt F) :=
  broadcastInDim S32768 ![] bcast_S_S32768 (val_main_c_10 (F := F))
/-- The operand index that the value reads for a given index of its own. -/
abbrev idx_main_v38 (i : S32768.Idx) : S_.Idx := fun a => a.elim0
/-- `val_main_v38` read at an index, from its operands read at an index. -/
theorem val_main_v38_apply (i : S32768.Idx) :
    val_main_v38 (F := F) i = val_main_c_10 (F := F) (idx_main_v38 i) := by
  unfold val_main_v38
  generalize val_main_c_10 (F := F) = y
  exact broadcastInDim_apply _ bcast_S_S32768 y i (idx_main_v38 i) (fun a => a.elim0)

/-- The value written by `%39 = "stablehlo.scatter"(%30, %37, %38) <{indices_are_sorted = false, scatter_dimension_numbers = #stablehlo.scatter<inserted_window_dims = [0], scatter_dims_to_operand_dims = [0], index_vector_dim = 1>, unique_indices = false}> ( {`. -/
def val_main_v39 (x0 : (⟨S32x1024x64, .f32⟩ : BufTy).Contents (Elt F)) (x1 : (⟨S1024x64, .f32⟩ : BufTy).Contents (Elt F)) : (⟨S1024, .i32⟩ : BufTy).Contents (Elt F) :=
  Host.scatter scatter_S1024_S32768x1_S32768_n_0_0_1 IntOp.addi (val_main_v30 (F := F)) (val_main_v37 (F := F) x0 x1) (val_main_v38 (F := F))

/-- The value written by `%40 = stablehlo.convert %39 : (tensor<1024xi32>) -> tensor<1024xf32>`. -/
def val_main_v40 (x0 : (⟨S32x1024x64, .f32⟩ : BufTy).Contents (Elt F)) (x1 : (⟨S1024x64, .f32⟩ : BufTy).Contents (Elt F)) : (⟨S1024, .f32⟩ : BufTy).Contents (Elt F) :=
  sitofp .f32 (val_main_v39 (F := F) x0 x1)
/-- `val_main_v40` read at an index, from its operands read at an index. -/
theorem val_main_v40_apply (x0 : (⟨S32x1024x64, .f32⟩ : BufTy).Contents (Elt F)) (x1 : (⟨S1024x64, .f32⟩ : BufTy).Contents (Elt F)) (i : S1024.Idx) :
    val_main_v40 (F := F) x0 x1 i = FloatOps.sitofp .f32 (val_main_v39 (F := F) x0 x1 i) := rfl

/-- The value written by `%cst_11 = stablehlo.constant dense<3.276800e+04> : tensor<f32>`. -/
def val_main_cst_11 : (⟨S_, .f32⟩ : BufTy).Contents (Elt F) :=
  constant S_ .f32 0x47000000#32
/-- `val_main_cst_11` read at an index, from its operands read at an index. -/
theorem val_main_cst_11_apply (i : S_.Idx) :
    val_main_cst_11 (F := F) i = FloatOps.ofBits .f32 0x47000000#32 := rfl

/-- The value written by `%41 = stablehlo.broadcast_in_dim %cst_11, dims = [] : (tensor<f32>) -> tensor<1024xf32>`. -/
def val_main_v41 : (⟨S1024, .f32⟩ : BufTy).Contents (Elt F) :=
  broadcastInDim S1024 ![] bcast_S_S1024 (val_main_cst_11 (F := F))
/-- The operand index that the value reads for a given index of its own. -/
abbrev idx_main_v41 (i : S1024.Idx) : S_.Idx := fun a => a.elim0
/-- `val_main_v41` read at an index, from its operands read at an index. -/
theorem val_main_v41_apply (i : S1024.Idx) :
    val_main_v41 (F := F) i = val_main_cst_11 (F := F) (idx_main_v41 i) := by
  unfold val_main_v41
  generalize val_main_cst_11 (F := F) = y
  exact broadcastInDim_apply _ bcast_S_S1024 y i (idx_main_v41 i) (fun a => a.elim0)

/-- The value written by `%42 = stablehlo.divide %40, %41 : tensor<1024xf32>`. -/
def val_main_v42 (x0 : (⟨S32x1024x64, .f32⟩ : BufTy).Contents (Elt F)) (x1 : (⟨S1024x64, .f32⟩ : BufTy).Contents (Elt F)) : (⟨S1024, .f32⟩ : BufTy).Contents (Elt F) :=
  Host.divf (val_main_v40 (F := F) x0 x1) (val_main_v41 (F := F))
/-- `val_main_v42` read at an index, from its operands read at an index. -/
theorem val_main_v42_apply (x0 : (⟨S32x1024x64, .f32⟩ : BufTy).Contents (Elt F)) (x1 : (⟨S1024x64, .f32⟩ : BufTy).Contents (Elt F)) (i : S1024.Idx) :
    val_main_v42 (F := F) x0 x1 i = FloatOps.hostDivf (val_main_v40 (F := F) x0 x1 i) (val_main_v41 (F := F) i) := rfl

/-- The value written by `%cst_12 = stablehlo.constant dense<9.99999996E-13> : tensor<f32>`. -/
def val_main_cst_12 : (⟨S_, .f32⟩ : BufTy).Contents (Elt F) :=
  constant S_ .f32 0x2B8CBCCC#32
/-- `val_main_cst_12` read at an index, from its operands read at an index. -/
theorem val_main_cst_12_apply (i : S_.Idx) :
    val_main_cst_12 (F := F) i = FloatOps.ofBits .f32 0x2B8CBCCC#32 := rfl

/-- The value written by `%43 = stablehlo.broadcast_in_dim %cst_12, dims = [] : (tensor<f32>) -> tensor<1024xf32>`. -/
def val_main_v43 : (⟨S1024, .f32⟩ : BufTy).Contents (Elt F) :=
  broadcastInDim S1024 ![] bcast_S_S1024 (val_main_cst_12 (F := F))
/-- The operand index that the value reads for a given index of its own. -/
abbrev idx_main_v43 (i : S1024.Idx) : S_.Idx := fun a => a.elim0
/-- `val_main_v43` read at an index, from its operands read at an index. -/
theorem val_main_v43_apply (i : S1024.Idx) :
    val_main_v43 (F := F) i = val_main_cst_12 (F := F) (idx_main_v43 i) := by
  unfold val_main_v43
  generalize val_main_cst_12 (F := F) = y
  exact broadcastInDim_apply _ bcast_S_S1024 y i (idx_main_v43 i) (fun a => a.elim0)

/-- The value written by `%44 = stablehlo.add %42, %43 : tensor<1024xf32>`. -/
def val_main_v44 (x0 : (⟨S32x1024x64, .f32⟩ : BufTy).Contents (Elt F)) (x1 : (⟨S1024x64, .f32⟩ : BufTy).Contents (Elt F)) : (⟨S1024, .f32⟩ : BufTy).Contents (Elt F) :=
  addf (val_main_v42 (F := F) x0 x1) (val_main_v43 (F := F))
/-- `val_main_v44` read at an index, from its operands read at an index. -/
theorem val_main_v44_apply (x0 : (⟨S32x1024x64, .f32⟩ : BufTy).Contents (Elt F)) (x1 : (⟨S1024x64, .f32⟩ : BufTy).Contents (Elt F)) (i : S1024.Idx) :
    val_main_v44 (F := F) x0 x1 i = FloatOps.addf (val_main_v42 (F := F) x0 x1 i) (val_main_v43 (F := F) i) := rfl

/-- The value written by `%45 = stablehlo.log %44 : tensor<1024xf32>`. -/
def val_main_v45 (x0 : (⟨S32x1024x64, .f32⟩ : BufTy).Contents (Elt F)) (x1 : (⟨S1024x64, .f32⟩ : BufTy).Contents (Elt F)) : (⟨S1024, .f32⟩ : BufTy).Contents (Elt F) :=
  Host.log (val_main_v44 (F := F) x0 x1)
/-- `val_main_v45` read at an index, from its operands read at an index. -/
theorem val_main_v45_apply (x0 : (⟨S32x1024x64, .f32⟩ : BufTy).Contents (Elt F)) (x1 : (⟨S1024x64, .f32⟩ : BufTy).Contents (Elt F)) (i : S1024.Idx) :
    val_main_v45 (F := F) x0 x1 i = FloatOps.hostUnary .log (val_main_v44 (F := F) x0 x1 i) := rfl

/-- The value written by `%46 = stablehlo.multiply %42, %45 : tensor<1024xf32>`. -/
def val_main_v46 (x0 : (⟨S32x1024x64, .f32⟩ : BufTy).Contents (Elt F)) (x1 : (⟨S1024x64, .f32⟩ : BufTy).Contents (Elt F)) : (⟨S1024, .f32⟩ : BufTy).Contents (Elt F) :=
  mulf (val_main_v42 (F := F) x0 x1) (val_main_v45 (F := F) x0 x1)
/-- `val_main_v46` read at an index, from its operands read at an index. -/
theorem val_main_v46_apply (x0 : (⟨S32x1024x64, .f32⟩ : BufTy).Contents (Elt F)) (x1 : (⟨S1024x64, .f32⟩ : BufTy).Contents (Elt F)) (i : S1024.Idx) :
    val_main_v46 (F := F) x0 x1 i = FloatOps.mulf (val_main_v42 (F := F) x0 x1 i) (val_main_v45 (F := F) x0 x1 i) := rfl

/-- The value written by `%cst_13 = stablehlo.constant dense<0.000000e+00> : tensor<f32>`. -/
def val_main_cst_13 : (⟨S_, .f32⟩ : BufTy).Contents (Elt F) :=
  constant S_ .f32 0x00000000#32
/-- `val_main_cst_13` read at an index, from its operands read at an index. -/
theorem val_main_cst_13_apply (i : S_.Idx) :
    val_main_cst_13 (F := F) i = FloatOps.ofBits .f32 0x00000000#32 := rfl

/-- The value written by `%47 = stablehlo.reduce(%46 init: %cst_13) applies stablehlo.add across dimensions = [0] : (tensor<1024xf32>, tensor<f32>) -> tensor<f32> {`. -/
def val_main_v47 (x0 : (⟨S32x1024x64, .f32⟩ : BufTy).Contents (Elt F)) (x1 : (⟨S1024x64, .f32⟩ : BufTy).Contents (Elt F)) : (⟨S_, .f32⟩ : BufTy).Contents (Elt F) :=
  Host.reduceAdd (val_main_v46 (F := F) x0 x1) (val_main_cst_13 (F := F)) reducesTo_S1024_S_d0 h_S_
/-- Stated at `F := Ideal`, where the host's float sum is this sum. -/
theorem val_main_v47_apply (x0 : (⟨S32x1024x64, .f32⟩ : BufTy).Contents (Elt Ideal)) (x1 : (⟨S1024x64, .f32⟩ : BufTy).Contents (Elt Ideal)) (i : S_.Idx) :
    val_main_v47 (F := Ideal) x0 x1 i = (val_main_cst_13 (F := Ideal)) (Shape.Idx.first h_S_) + ∑ j : S1024.Idx, (val_main_v46 (F := Ideal) x0 x1) j := by
  unfold val_main_v47
  generalize val_main_v46 (F := Ideal) x0 x1 = y0
  simp only [Host.reduceAdd, Ideal.hostReduceAdd_def]
  exact Ideal.hostReduceAdd_total reducesTo_S1024_S_d0 (fun b => b.elim0) y0 _ i

/-- The value written by `%48 = stablehlo.negate %47 : tensor<f32>`. -/
def val_main_v48 (x0 : (⟨S32x1024x64, .f32⟩ : BufTy).Contents (Elt F)) (x1 : (⟨S1024x64, .f32⟩ : BufTy).Contents (Elt F)) : (⟨S_, .f32⟩ : BufTy).Contents (Elt F) :=
  Host.negf (val_main_v47 (F := F) x0 x1)
/-- `val_main_v48` read at an index, from its operands read at an index. -/
theorem val_main_v48_apply (x0 : (⟨S32x1024x64, .f32⟩ : BufTy).Contents (Elt F)) (x1 : (⟨S1024x64, .f32⟩ : BufTy).Contents (Elt F)) (i : S_.Idx) :
    val_main_v48 (F := F) x0 x1 i = FloatOps.hostNegf (val_main_v47 (F := F) x0 x1 i) := rfl

/-- The value written by `%49 = stablehlo.exponential %48 : tensor<f32>`. -/
def val_main_v49 (x0 : (⟨S32x1024x64, .f32⟩ : BufTy).Contents (Elt F)) (x1 : (⟨S1024x64, .f32⟩ : BufTy).Contents (Elt F)) : (⟨S_, .f32⟩ : BufTy).Contents (Elt F) :=
  Host.exp (val_main_v48 (F := F) x0 x1)
/-- `val_main_v49` read at an index, from its operands read at an index. -/
theorem val_main_v49_apply (x0 : (⟨S32x1024x64, .f32⟩ : BufTy).Contents (Elt F)) (x1 : (⟨S1024x64, .f32⟩ : BufTy).Contents (Elt F)) (i : S_.Idx) :
    val_main_v49 (F := F) x0 x1 i = FloatOps.hostUnary .exp (val_main_v48 (F := F) x0 x1 i) := rfl

/-- The value written by `%50 = stablehlo.reshape %15 : (tensor<32768xi32>) -> tensor<32x1024xi32>`. -/
def val_main_v50 (x0 : (⟨S32x1024x64, .f32⟩ : BufTy).Contents (Elt F)) (x1 : (⟨S1024x64, .f32⟩ : BufTy).Contents (Elt F)) : (⟨S32x1024, .i32⟩ : BufTy).Contents (Elt F) :=
  shapeCast _ (val_main_v15 (F := F) x0 x1) shapeCasts_S32768_S32x1024
set_option backward.proofsInPublic true in
/-- The operand index that the value reads for a given index of its own. -/
abbrev idx_main_v50 (i : S32x1024.Idx) : S32768.Idx := fun a => match a with
  | ⟨0, _⟩ => ⟨(i 0).val * 1024 + (i 1).val, by have h0 : (i 0).val < 32 := (i 0).isLt; have h1 : (i 1).val < 1024 := (i 1).isLt; show (i 0).val * 1024 + (i 1).val < 32768; omega⟩
/-- `val_main_v50` read at an index, from its operands read at an index. -/
theorem val_main_v50_apply (x0 : (⟨S32x1024x64, .f32⟩ : BufTy).Contents (Elt F)) (x1 : (⟨S1024x64, .f32⟩ : BufTy).Contents (Elt F)) (i : S32x1024.Idx) :
    val_main_v50 (F := F) x0 x1 i = val_main_v15 (F := F) x0 x1 (idx_main_v50 i) := by
  unfold val_main_v50
  generalize val_main_v15 (F := F) x0 x1 = y
  exact shapeCast_apply y shapeCasts_S32768_S32x1024 i (idx_main_v50 i)
    (by rewrite [Shape.rowMajor_val_one, Shape.rowMajor_val_two]; have h0 : (i 0).val < 32 := (i 0).isLt; have h1 : (i 1).val < 1024 := (i 1).isLt; show (i 0).val * 1024 + (i 1).val = (i 0).val * 1024 + (i 1).val; omega)

/-- The value written by `%51 = stablehlo.reshape %29 : (tensor<f32>) -> tensor<1x1xf32>`. -/
def val_main_v51 (x0 : (⟨S32x1024x64, .f32⟩ : BufTy).Contents (Elt F)) (x1 : (⟨S1024x64, .f32⟩ : BufTy).Contents (Elt F)) : (⟨S1x1, .f32⟩ : BufTy).Contents (Elt F) :=
  shapeCast _ (val_main_v29 (F := F) x0 x1) shapeCasts_S_S1x1

/-- The value written by `%52 = stablehlo.reshape %49 : (tensor<f32>) -> tensor<1x1xf32>`. -/
def val_main_v52 (x0 : (⟨S32x1024x64, .f32⟩ : BufTy).Contents (Elt F)) (x1 : (⟨S1024x64, .f32⟩ : BufTy).Contents (Elt F)) : (⟨S1x1, .f32⟩ : BufTy).Contents (Elt F) :=
  shapeCast _ (val_main_v49 (F := F) x0 x1) shapeCasts_S_S1x1

end Cert.ReferenceIdeal.Read

end
-- ==== Proof.Ref.Ops.lean ====
/- The reference program as a list of 97 host operations, each writing a buffer of its own: what a buffer holds at the end is
   the result of the one operation that writes it. -/
module

public import proofs.«01_k».proof.Proof.Ref.Vals
public import Idealize.ShloMosaic.Lib.StableHlo.RunRead

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The main function's operations, in order; those of a called function stand where it is called. -/
def ops : List (HloOp τ sig (Elt F)) :=
  [ reshape main_arg0 main_v0 (rfl : (.f32 : EltTy) = .f32) shapeCasts_S32x1024x64_S32768x64,
    binary main_v0 main_v0 main_v1 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v1 main_cst main_v2 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v2 main_v3 (broadcastInDim S32768x1 ![0] bcast_S32768_S32768x1_0 : (⟨S32768, .f32⟩ : BufTy).Contents (Elt F) → (⟨S32768x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S32768x1024 ![0, 1] bcast_S32768x1_S32768x1024_0_1 : (⟨S32768x1, .f32⟩ : BufTy).Contents (Elt F) → (⟨S32768x1024, .f32⟩ : BufTy).Contents (Elt F)),
    unary main_v6 main_v8 (broadcastInDim S32768x1024 ![0, 1] bcast_S1x1024_S32768x1024_0_1 : (⟨S1x1024, .f32⟩ : BufTy).Contents (Elt F) → (⟨S32768x1024, .f32⟩ : BufTy).Contents (Elt F)),
    binary main_v7 main_v8 main_v9 (addf : (⟨S32768x1024, .f32⟩ : BufTy).Contents (Elt F) → (⟨S32768x1024, .f32⟩ : BufTy).Contents (Elt F) → (⟨S32768x1024, .f32⟩ : BufTy).Contents (Elt F)),
    unary main_arg1 main_v10 ((transpose S64x1024 [1, 0] · transposes_S1024x64_S64x1024_1_0) : (⟨S1024x64, .f32⟩ : BufTy).Contents (Elt F) → (⟨S64x1024, .f32⟩ : BufTy).Contents (Elt F)),
    binary main_v0 main_v10 main_v11 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v12 (broadcastInDim S32768x1024 ![] bcast_S_S32768x1024 : (⟨S_, .f32⟩ : BufTy).Contents (Elt F) → (⟨S32768x1024, .f32⟩ : BufTy).Contents (Elt F)),
    binary main_v12 main_v11 main_v13 (mulf : (⟨S32768x1024, .f32⟩ : BufTy).Contents (Elt F) → (⟨S32768x1024, .f32⟩ : BufTy).Contents (Elt F) → (⟨S32768x1024, .f32⟩ : BufTy).Contents (Elt F)),
    binary main_v9 main_v13 main_v14 (subf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .i32⟩) main_v15) (fun x y u v j => (Host.argReduce reducer_argmin_f32_i32 x y u v reducesTo_S32768x1024_S32768_d1 h_S_ j).2),
    TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v15) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v15) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v15) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v16) select,
    reshape main_v16 main_v17 (rfl : (.f32 : EltTy) = .f32) shapeCasts_S32768x64_S32x1024x64,
    binary main_arg0 main_v17 main_v18 (subf : (⟨S32x1024x64, .f32⟩ : BufTy).Contents (Elt F) → (⟨S32x1024x64, .f32⟩ : BufTy).Contents (Elt F) → (⟨S32x1024x64, .f32⟩ : BufTy).Contents (Elt F)),
    binary main_v18 main_v18 main_v19 (mulf : (⟨S32x1024x64, .f32⟩ : BufTy).Contents (Elt F) → (⟨S32x1024x64, .f32⟩ : BufTy).Contents (Elt F) → (⟨S32x1024x64, .f32⟩ : BufTy).Contents (Elt F)),
    nullary main_cst_2 (constant S_ .f32 0x00000000#32),
    binary main_v19 main_cst_2 main_v20 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_3 (constant S_ .f32 0x4A000000#32),
    binary main_v20 main_cst_3 main_v21 (Host.divf : (⟨S_, .f32⟩ : BufTy).Contents (Elt F) → (⟨S_, .f32⟩ : BufTy).Contents (Elt F) → (⟨S_, .f32⟩ : BufTy).Contents (Elt F)),
    binary main_arg0 main_v17 main_v22 (subf : (⟨S32x1024x64, .f32⟩ : BufTy).Contents (Elt F) → (⟨S32x1024x64, .f32⟩ : BufTy).Contents (Elt F) → (⟨S32x1024x64, .f32⟩ : BufTy).Contents (Elt F)),
    binary main_v22 main_v22 main_v23 (mulf : (⟨S32x1024x64, .f32⟩ : BufTy).Contents (Elt F) → (⟨S32x1024x64, .f32⟩ : BufTy).Contents (Elt F) → (⟨S32x1024x64, .f32⟩ : BufTy).Contents (Elt F)),
    nullary main_cst_4 (constant S_ .f32 0x00000000#32),
    binary main_v23 main_cst_4 main_v24 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_5 (constant S_ .f32 0x4A000000#32),
    binary main_v24 main_cst_5 main_v25 (Host.divf : (⟨S_, .f32⟩ : BufTy).Contents (Elt F) → (⟨S_, .f32⟩ : BufTy).Contents (Elt F) → (⟨S_, .f32⟩ : BufTy).Contents (Elt F)),
    binary main_v17 main_arg0 main_v26 (subf : (⟨S32x1024x64, .f32⟩ : BufTy).Contents (Elt F) → (⟨S32x1024x64, .f32⟩ : BufTy).Contents (Elt F) → (⟨S32x1024x64, .f32⟩ : BufTy).Contents (Elt F)),
    binary main_arg0 main_v26 main_v27 (addf : (⟨S32x1024x64, .f32⟩ : BufTy).Contents (Elt F) → (⟨S32x1024x64, .f32⟩ : BufTy).Contents (Elt F) → (⟨S32x1024x64, .f32⟩ : BufTy).Contents (Elt F)),
    nullary main_cst_6 (constant S_ .f32 0x3E800000#32),
    binary main_cst_6 main_v21 main_v28 (mulf : (⟨S_, .f32⟩ : BufTy).Contents (Elt F) → (⟨S_, .f32⟩ : BufTy).Contents (Elt F) → (⟨S_, .f32⟩ : BufTy).Contents (Elt F)),
    binary main_v25 main_v28 main_v29 (addf : (⟨S_, .f32⟩ : BufTy).Contents (Elt F) → (⟨S_, .f32⟩ : BufTy).Contents (Elt F) → (⟨S_, .f32⟩ : BufTy).Contents (Elt F)),
    nullary main_c (constantI S_ 32 0#32),
    unary main_c main_v30 (broadcastInDim S1024 ![] bcast_S_S1024 : (⟨S_, .i32⟩ : BufTy).Contents (Elt F) → (⟨S1024, .i32⟩ : BufTy).Contents (Elt F)),
    nullary main_c_7 (constantI S_ 32 0#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S32768, .i32⟩) main_call2_v1) (broadcastInDim S32768 ![] bcast_S_S32768),
    TRef.binary (TRef.of (T := ⟨S32768, .i32⟩) main_call2_v1) (TRef.of (T := ⟨S32768, .i32⟩) main_v15) (TRef.of (T := ⟨S32768, .i32⟩) main_v31) maxsi,
    nullary main_c_8 (constantI S_ 32 0#32),
    unary main_c_8 main_v32 (broadcastInDim S32768 ![] bcast_S_S32768 : (⟨S_, .i32⟩ : BufTy).Contents (Elt F) → (⟨S32768, .i32⟩ : BufTy).Contents (Elt F)),
    binary main_v31 main_v32 main_v33 (cmpi .slt : (⟨S32768, .i32⟩ : BufTy).Contents (Elt F) → (⟨S32768, .i32⟩ : BufTy).Contents (Elt F) → (⟨S32768, .i1⟩ : BufTy).Contents (Elt F)),
    nullary main_c_9 (constantI S_ 32 1024#32),
    unary main_c_9 main_v34 (broadcastInDim S32768 ![] bcast_S_S32768 : (⟨S_, .i32⟩ : BufTy).Contents (Elt F) → (⟨S32768, .i32⟩ : BufTy).Contents (Elt F)),
    binary main_v31 main_v34 main_v35 (addi : (⟨S32768, .i32⟩ : BufTy).Contents (Elt F) → (⟨S32768, .i32⟩ : BufTy).Contents (Elt F) → (⟨S32768, .i32⟩ : BufTy).Contents (Elt F)),
    ternary main_v33 main_v35 main_v31 main_v36 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v36 main_v37 (broadcastInDim S32768x1 ![0] bcast_S32768_S32768x1_0 : (⟨S32768, .i32⟩ : BufTy).Contents (Elt F) → (⟨S32768x1, .i32⟩ : BufTy).Contents (Elt F)),
    nullary main_c_10 (constantI S_ 32 1#32),
    unary main_c_10 main_v38 (broadcastInDim S32768 ![] bcast_S_S32768 : (⟨S_, .i32⟩ : BufTy).Contents (Elt F) → (⟨S32768, .i32⟩ : BufTy).Contents (Elt F)),
    ternary main_v30 main_v37 main_v38 main_v39 ((fun x i u => Host.scatter scatter_S1024_S32768x1_S32768_n_0_0_1 IntOp.addi x i u) : (⟨S1024, .i32⟩ : BufTy).Contents (Elt F) → (⟨S32768x1, .i32⟩ : BufTy).Contents (Elt F) → (⟨S32768, .i32⟩ : BufTy).Contents (Elt F) → (⟨S1024, .i32⟩ : BufTy).Contents (Elt F)),
    unary main_v39 main_v40 (sitofp .f32 : (⟨S1024, .i32⟩ : BufTy).Contents (Elt F) → (⟨S1024, .f32⟩ : BufTy).Contents (Elt F)),
    nullary main_cst_11 (constant S_ .f32 0x47000000#32),
    unary main_cst_11 main_v41 (broadcastInDim S1024 ![] bcast_S_S1024 : (⟨S_, .f32⟩ : BufTy).Contents (Elt F) → (⟨S1024, .f32⟩ : BufTy).Contents (Elt F)),
    binary main_v40 main_v41 main_v42 (Host.divf : (⟨S1024, .f32⟩ : BufTy).Contents (Elt F) → (⟨S1024, .f32⟩ : BufTy).Contents (Elt F) → (⟨S1024, .f32⟩ : BufTy).Contents (Elt F)),
    nullary main_cst_12 (constant S_ .f32 0x2B8CBCCC#32),
    unary main_cst_12 main_v43 (broadcastInDim S1024 ![] bcast_S_S1024 : (⟨S_, .f32⟩ : BufTy).Contents (Elt F) → (⟨S1024, .f32⟩ : BufTy).Contents (Elt F)),
    binary main_v42 main_v43 main_v44 (addf : (⟨S1024, .f32⟩ : BufTy).Contents (Elt F) → (⟨S1024, .f32⟩ : BufTy).Contents (Elt F) → (⟨S1024, .f32⟩ : BufTy).Contents (Elt F)),
    unary main_v44 main_v45 (Host.log : (⟨S1024, .f32⟩ : BufTy).Contents (Elt F) → (⟨S1024, .f32⟩ : BufTy).Contents (Elt F)),
    binary main_v42 main_v45 main_v46 (mulf : (⟨S1024, .f32⟩ : BufTy).Contents (Elt F) → (⟨S1024, .f32⟩ : BufTy).Contents (Elt F) → (⟨S1024, .f32⟩ : BufTy).Contents (Elt F)),
    nullary main_cst_13 (constant S_ .f32 0x00000000#32),
    binary main_v46 main_cst_13 main_v47 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v47 main_v48 (Host.negf : (⟨S_, .f32⟩ : BufTy).Contents (Elt F) → (⟨S_, .f32⟩ : BufTy).Contents (Elt F)),
    unary main_v48 main_v49 (Host.exp : (⟨S_, .f32⟩ : BufTy).Contents (Elt F) → (⟨S_, .f32⟩ : BufTy).Contents (Elt F)),
    reshape main_v15 main_v50 (rfl : (.i32 : EltTy) = .i32) shapeCasts_S32768_S32x1024,
    reshape main_v29 main_v51 (rfl : (.f32 : EltTy) = .f32) shapeCasts_S_S1x1,
    reshape main_v49 main_v52 (rfl : (.f32 : EltTy) = .f32) shapeCasts_S_S1x1 ]

set_option maxRecDepth 8192 in
set_option maxHeartbeats 4000000 in
/-- The main function runs the listed operations one after another. -/
theorem main_eq (c : Dev nD) : main (F := F) c = seq ops := rfl
/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide
set_option maxRecDepth 8192 in
/-- The operations touch only buffers of the tensor core. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., reshape_bufs_sub .., reshape_bufs_sub .., reshape_bufs_sub ..⟩

/-- The references the operations write, in order; each is written once. -/
def outs : List (Ref sig .tc) :=
  [main_v0, main_v1, main_cst, main_v2, main_v3, main_v4, main_cst_0, main_v5, main_v6, main_v7, main_v8, main_v9, main_v10, main_v11, main_cst_1, main_v12, main_v13, main_v14, main_call0_v0, main_call0_cst, main_call0_c, main_call0_v1_0, main_v15, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16, main_v17, main_v18, main_v19, main_cst_2, main_v20, main_cst_3, main_v21, main_v22, main_v23, main_cst_4, main_v24, main_cst_5, main_v25, main_v26, main_v27, main_cst_6, main_v28, main_v29, main_c, main_v30, main_c_7, main_call2_v0, main_call2_v1, main_v31, main_c_8, main_v32, main_v33, main_c_9, main_v34, main_v35, main_v36, main_v37, main_c_10, main_v38, main_v39, main_v40, main_cst_11, main_v41, main_v42, main_cst_12, main_v43, main_v44, main_v45, main_v46, main_cst_13, main_v47, main_v48, main_v49, main_v50, main_v51, main_v52]

set_option maxRecDepth 8192 in
/-- Operation by operation, `outs` lists what the program writes. -/
theorem ops_writes : (ops (F := F)).map HloOp.writes = outs.map fun w => {Proc.devRef (τ := τ) .tc w} := rfl

/-- What the operations from position `i` on write is the list `outs` from position `i` on. -/
theorem drop_writes (i : ℕ) :
    ((ops (F := F)).drop i).map HloOp.writes = (outs.drop i).map fun w => {Proc.devRef (τ := τ) .tc w} := by
  rw [List.map_drop, ops_writes, List.map_drop]

/-- A buffer not written from position `i` on holds before that position what it holds at the end. -/
theorem keep (i : ℕ) {r : Ref sig .tc} (hr : r ∉ outs.drop i) (V : Valuation τ sig (Elt F)) :
    upto ops V i (Proc.devRef .tc r) = after ops V (Proc.devRef .tc r) := by
  have h := List.foldl_append (f := fun (W : Valuation τ sig (Elt F)) (op : HloOp τ sig (Elt F)) => op.result W) (b := V) (l := ops.take i) (l' := ops.drop i)
  have e : ∀ (l : List (HloOp τ sig (Elt F))) (W : Valuation τ sig (Elt F)), l.foldl (fun W op => op.result W) W = after l W := by
    intro l; induction l with
    | nil => intro W; rfl
    | cons o l ih => intro W; exact ih _
  rw [List.take_append_drop, e, e, e] at h
  rw [h, after_unwritten (outs.drop i) (drop_writes i) hr]
  rfl

/-- At the end a buffer holds the result of the operation at position `i`, from the contents before it, when no later
    operation writes the buffer. -/
theorem last (i : ℕ) {op : HloOp τ sig (Elt F)} (hop : ops.drop i = op :: ops.drop (i + 1)) {r : Ref sig .tc}
    (hr : r ∉ outs.drop (i + 1)) (V : Valuation τ sig (Elt F)) :
    after ops V (Proc.devRef .tc r) = op.result (upto ops V i) (Proc.devRef .tc r) :=
  after_last_write (outs.drop (i + 1)) hop (drop_writes (i + 1)) hr V

/-- The first argument is never written. -/
theorem end_main_arg0 (V : Valuation τ sig (Elt F)) : after ops V (Proc.devRef .tc main_arg0) = V (Proc.devRef .tc main_arg0) :=
  after_unwritten outs ops_writes (by decide) V
/-- The second argument is never written. -/
theorem end_main_arg1 (V : Valuation τ sig (Elt F)) : after ops V (Proc.devRef .tc main_arg1) = V (Proc.devRef .tc main_arg1) :=
  after_unwritten outs ops_writes (by decide) V
end Cert.ReferenceIdeal.Value

end
-- ==== Proof.Ref.EndA.lean ====
/- What the buffers of operations 0 to 32 of the reference hold at the end. -/
module

public import proofs.«01_k».proof.Proof.Ref.Ops

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- At the end `main_v0` holds its value. -/
theorem end_main_v0 (V : Valuation τ sig (Elt F)) : after ops V (Proc.devRef .tc main_v0) = Read.val_main_v0 (F := F) (V (Proc.devRef .tc main_arg0)) := by
  refine (last 0 rfl (by decide) V).trans ((reshape_result' ..).trans ?_)
  rw [keep 0 (by decide), end_main_arg0, Read.val_main_v0]
  rfl
/-- At the end `main_v1` holds its value. -/
theorem end_main_v1 (V : Valuation τ sig (Elt F)) : after ops V (Proc.devRef .tc main_v1) = Read.val_main_v1 (F := F) (V (Proc.devRef .tc main_arg0)) := by
  refine (last 1 rfl (by decide) V).trans ((binary_result' ..).trans ?_)
  rw [keep 1 (by decide), end_main_v0, Read.val_main_v1]
/-- At the end `main_cst` holds its value. -/
theorem end_main_cst (V : Valuation τ sig (Elt F)) : after ops V (Proc.devRef .tc main_cst) = Read.val_main_cst (F := F) := by
  refine (last 2 rfl (by decide) V).trans ((nullary_result' ..).trans ?_)
  rw [Read.val_main_cst]
/-- At the end `main_v2` holds its value. -/
theorem end_main_v2 (V : Valuation τ sig (Elt F)) : after ops V (Proc.devRef .tc main_v2) = Read.val_main_v2 (F := F) (V (Proc.devRef .tc main_arg0)) := by
  refine (last 3 rfl (by decide) V).trans ((binary_result' ..).trans ?_)
  rw [keep 3 (by decide), end_main_v1, keep 3 (by decide), end_main_cst, Read.val_main_v2]
/-- At the end `main_v3` holds its value. -/
theorem end_main_v3 (V : Valuation τ sig (Elt F)) : after ops V (Proc.devRef .tc main_v3) = Read.val_main_v3 (F := F) (V (Proc.devRef .tc main_arg0)) := by
  refine (last 4 rfl (by decide) V).trans ((unary_result' ..).trans ?_)
  rw [keep 4 (by decide), end_main_v2, Read.val_main_v3]
/-- At the end `main_v4` holds its value. -/
theorem end_main_v4 (V : Valuation τ sig (Elt F)) : after ops V (Proc.devRef .tc main_v4) = Read.val_main_v4 (F := F) (V (Proc.devRef .tc main_arg1)) := by
  refine (last 5 rfl (by decide) V).trans ((binary_result' ..).trans ?_)
  rw [keep 5 (by decide), end_main_arg1, Read.val_main_v4]
/-- At the end `main_cst_0` holds its value. -/
theorem end_main_cst_0 (V : Valuation τ sig (Elt F)) : after ops V (Proc.devRef .tc main_cst_0) = Read.val_main_cst_0 (F := F) := by
  refine (last 6 rfl (by decide) V).trans ((nullary_result' ..).trans ?_)
  rw [Read.val_main_cst_0]
/-- At the end `main_v5` holds its value. -/
theorem end_main_v5 (V : Valuation τ sig (Elt F)) : after ops V (Proc.devRef .tc main_v5) = Read.val_main_v5 (F := F) (V (Proc.devRef .tc main_arg1)) := by
  refine (last 7 rfl (by decide) V).trans ((binary_result' ..).trans ?_)
  rw [keep 7 (by decide), end_main_v4, keep 7 (by decide), end_main_cst_0, Read.val_main_v5]
/-- At the end `main_v6` holds its value. -/
theorem end_main_v6 (V : Valuation τ sig (Elt F)) : after ops V (Proc.devRef .tc main_v6) = Read.val_main_v6 (F := F) (V (Proc.devRef .tc main_arg1)) := by
  refine (last 8 rfl (by decide) V).trans ((unary_result' ..).trans ?_)
  rw [keep 8 (by decide), end_main_v5, Read.val_main_v6]
/-- At the end `main_v7` holds its value. -/
theorem end_main_v7 (V : Valuation τ sig (Elt F)) : after ops V (Proc.devRef .tc main_v7) = Read.val_main_v7 (F := F) (V (Proc.devRef .tc main_arg0)) := by
  refine (last 9 rfl (by decide) V).trans ((unary_result' ..).trans ?_)
  rw [keep 9 (by decide), end_main_v3, Read.val_main_v7]
/-- At the end `main_v8` holds its value. -/
theorem end_main_v8 (V : Valuation τ sig (Elt F)) : after ops V (Proc.devRef .tc main_v8) = Read.val_main_v8 (F := F) (V (Proc.devRef .tc main_arg1)) := by
  refine (last 10 rfl (by decide) V).trans ((unary_result' ..).trans ?_)
  rw [keep 10 (by decide), end_main_v6, Read.val_main_v8]
/-- At the end `main_v9` holds its value. -/
theorem end_main_v9 (V : Valuation τ sig (Elt F)) : after ops V (Proc.devRef .tc main_v9) = Read.val_main_v9 (F := F) (V (Proc.devRef .tc main_arg0)) (V (Proc.devRef .tc main_arg1)) := by
  refine (last 11 rfl (by decide) V).trans ((binary_result' ..).trans ?_)
  rw [keep 11 (by decide), end_main_v7, keep 11 (by decide), end_main_v8, Read.val_main_v9]
/-- At the end `main_v10` holds its value. -/
theorem end_main_v10 (V : Valuation τ sig (Elt F)) : after ops V (Proc.devRef .tc main_v10) = Read.val_main_v10 (F := F) (V (Proc.devRef .tc main_arg1)) := by
  refine (last 12 rfl (by decide) V).trans ((unary_result' ..).trans ?_)
  rw [keep 12 (by decide), end_main_arg1, Read.val_main_v10]
/-- At the end `main_v11` holds its value. -/
theorem end_main_v11 (V : Valuation τ sig (Elt F)) : after ops V (Proc.devRef .tc main_v11) = Read.val_main_v11 (F := F) (V (Proc.devRef .tc main_arg0)) (V (Proc.devRef .tc main_arg1)) := by
  refine (last 13 rfl (by decide) V).trans ((binary_result' ..).trans ?_)
  rw [keep 13 (by decide), end_main_v0, keep 13 (by decide), end_main_v10, Read.val_main_v11]
/-- At the end `main_cst_1` holds its value. -/
theorem end_main_cst_1 (V : Valuation τ sig (Elt F)) : after ops V (Proc.devRef .tc main_cst_1) = Read.val_main_cst_1 (F := F) := by
  refine (last 14 rfl (by decide) V).trans ((nullary_result' ..).trans ?_)
  rw [Read.val_main_cst_1]
/-- At the end `main_v12` holds its value. -/
theorem end_main_v12 (V : Valuation τ sig (Elt F)) : after ops V (Proc.devRef .tc main_v12) = Read.val_main_v12 (F := F) := by
  refine (last 15 rfl (by decide) V).trans ((unary_result' ..).trans ?_)
  rw [keep 15 (by decide), end_main_cst_1, Read.val_main_v12]
/-- At the end `main_v13` holds its value. -/
theorem end_main_v13 (V : Valuation τ sig (Elt F)) : after ops V (Proc.devRef .tc main_v13) = Read.val_main_v13 (F := F) (V (Proc.devRef .tc main_arg0)) (V (Proc.devRef .tc main_arg1)) := by
  refine (last 16 rfl (by decide) V).trans ((binary_result' ..).trans ?_)
  rw [keep 16 (by decide), end_main_v12, keep 16 (by decide), end_main_v11, Read.val_main_v13]
/-- At the end `main_v14` holds its value. -/
theorem end_main_v14 (V : Valuation τ sig (Elt F)) : after ops V (Proc.devRef .tc main_v14) = Read.val_main_v14 (F := F) (V (Proc.devRef .tc main_arg0)) (V (Proc.devRef .tc main_arg1)) := by
  refine (last 17 rfl (by decide) V).trans ((binary_result' ..).trans ?_)
  rw [keep 17 (by decide), end_main_v9, keep 17 (by decide), end_main_v13, Read.val_main_v14]
/-- At the end `main_call0_v0` holds its value. -/
theorem end_main_call0_v0 (V : Valuation τ sig (Elt F)) : after ops V (Proc.devRef .tc main_call0_v0) = Read.val_main_call0_v0 (F := F) := by
  refine (last 18 rfl (by decide) V).trans ((nullary_result' ..).trans ?_)
  rw [Read.val_main_call0_v0]
  rfl
/-- At the end `main_call0_cst` holds its value. -/
theorem end_main_call0_cst (V : Valuation τ sig (Elt F)) : after ops V (Proc.devRef .tc main_call0_cst) = Read.val_main_call0_cst (F := F) := by
  refine (last 19 rfl (by decide) V).trans ((nullary_result' ..).trans ?_)
  rw [Read.val_main_call0_cst]
  rfl
/-- At the end `main_call0_c` holds its value. -/
theorem end_main_call0_c (V : Valuation τ sig (Elt F)) : after ops V (Proc.devRef .tc main_call0_c) = Read.val_main_call0_c (F := F) := by
  refine (last 20 rfl (by decide) V).trans ((nullary_result' ..).trans ?_)
  rw [Read.val_main_call0_c]
  rfl
/-- At the end `main_call0_v1_0` holds its value. -/
theorem end_main_call0_v1_0 (V : Valuation τ sig (Elt F)) : after ops V (Proc.devRef .tc main_call0_v1_0) = Read.val_main_call0_v1_0 (F := F) (V (Proc.devRef .tc main_arg0)) (V (Proc.devRef .tc main_arg1)) := by
  refine (last 21 rfl (by decide) V).trans ((quaternary_result' ..).trans ?_)
  rw [keep 21 (by decide), end_main_v14, keep 21 (by decide), end_main_call0_v0, keep 21 (by decide), end_main_call0_cst, keep 21 (by decide), end_main_call0_c, Read.val_main_call0_v1_0]
  generalize Read.val_main_v14 (F := F) (V (Proc.devRef .tc main_arg0)) (V (Proc.devRef .tc main_arg1)) = z0; generalize Read.val_main_call0_v0 (F := F) = z1; generalize Read.val_main_call0_cst (F := F) = z2; generalize Read.val_main_call0_c (F := F) = z3
  revert z0 z1 z2 z3
  refine id ?_
  intro z0 z1 z2 z3
  rfl
/-- At the end `main_v15` holds its value. -/
theorem end_main_v15 (V : Valuation τ sig (Elt F)) : after ops V (Proc.devRef .tc main_v15) = Read.val_main_v15 (F := F) (V (Proc.devRef .tc main_arg0)) (V (Proc.devRef .tc main_arg1)) := by
  refine (last 22 rfl (by decide) V).trans ((quaternary_result' ..).trans ?_)
  rw [keep 22 (by decide), end_main_v14, keep 22 (by decide), end_main_call0_v0, keep 22 (by decide), end_main_call0_cst, keep 22 (by decide), end_main_call0_c, Read.val_main_v15]
  generalize Read.val_main_v14 (F := F) (V (Proc.devRef .tc main_arg0)) (V (Proc.devRef .tc main_arg1)) = z0; generalize Read.val_main_call0_v0 (F := F) = z1; generalize Read.val_main_call0_cst (F := F) = z2; generalize Read.val_main_call0_c (F := F) = z3
  revert z0 z1 z2 z3
  refine id ?_
  intro z0 z1 z2 z3
  rfl
/-- At the end `main_call1_c` holds its value. -/
theorem end_main_call1_c (V : Valuation τ sig (Elt F)) : after ops V (Proc.devRef .tc main_call1_c) = Read.val_main_call1_c (F := F) := by
  refine (last 23 rfl (by decide) V).trans ((nullary_result' ..).trans ?_)
  rw [Read.val_main_call1_c]
  rfl
/-- At the end `main_call1_v0` holds its value. -/
theorem end_main_call1_v0 (V : Valuation τ sig (Elt F)) : after ops V (Proc.devRef .tc main_call1_v0) = Read.val_main_call1_v0 (F := F) := by
  refine (last 24 rfl (by decide) V).trans ((unary_result' ..).trans ?_)
  rw [keep 24 (by decide), end_main_call1_c, Read.val_main_call1_v0]
  generalize Read.val_main_call1_c (F := F) = z0
  revert z0
  refine id ?_
  intro z0
  rfl
/-- At the end `main_call1_v1` holds its value. -/
theorem end_main_call1_v1 (V : Valuation τ sig (Elt F)) : after ops V (Proc.devRef .tc main_call1_v1) = Read.val_main_call1_v1 (F := F) (V (Proc.devRef .tc main_arg0)) (V (Proc.devRef .tc main_arg1)) := by
  refine (last 25 rfl (by decide) V).trans ((binary_result' ..).trans ?_)
  rw [keep 25 (by decide), end_main_v15, keep 25 (by decide), end_main_call1_v0, Read.val_main_call1_v1]
  generalize Read.val_main_v15 (F := F) (V (Proc.devRef .tc main_arg0)) (V (Proc.devRef .tc main_arg1)) = z0; generalize Read.val_main_call1_v0 (F := F) = z1
  revert z0 z1
  refine id ?_
  intro z0 z1
  rfl
/-- At the end `main_call1_c_0` holds its value. -/
theorem end_main_call1_c_0 (V : Valuation τ sig (Elt F)) : after ops V (Proc.devRef .tc main_call1_c_0) = Read.val_main_call1_c_0 (F := F) := by
  refine (last 26 rfl (by decide) V).trans ((nullary_result' ..).trans ?_)
  rw [Read.val_main_call1_c_0]
  rfl
/-- At the end `main_call1_v2` holds its value. -/
theorem end_main_call1_v2 (V : Valuation τ sig (Elt F)) : after ops V (Proc.devRef .tc main_call1_v2) = Read.val_main_call1_v2 (F := F) := by
  refine (last 27 rfl (by decide) V).trans ((unary_result' ..).trans ?_)
  rw [keep 27 (by decide), end_main_call1_c_0, Read.val_main_call1_v2]
  generalize Read.val_main_call1_c_0 (F := F) = z0
  revert z0
  refine id ?_
  intro z0
  rfl
/-- At the end `main_call1_v3` holds its value. -/
theorem end_main_call1_v3 (V : Valuation τ sig (Elt F)) : after ops V (Proc.devRef .tc main_call1_v3) = Read.val_main_call1_v3 (F := F) (V (Proc.devRef .tc main_arg0)) (V (Proc.devRef .tc main_arg1)) := by
  refine (last 28 rfl (by decide) V).trans ((binary_result' ..).trans ?_)
  rw [keep 28 (by decide), end_main_v15, keep 28 (by decide), end_main_call1_v2, Read.val_main_call1_v3]
  generalize Read.val_main_v15 (F := F) (V (Proc.devRef .tc main_arg0)) (V (Proc.devRef .tc main_arg1)) = z0; generalize Read.val_main_call1_v2 (F := F) = z1
  revert z0 z1
  refine id ?_
  intro z0 z1
  rfl
/-- At the end `main_call1_v4` holds its value. -/
theorem end_main_call1_v4 (V : Valuation τ sig (Elt F)) : after ops V (Proc.devRef .tc main_call1_v4) = Read.val_main_call1_v4 (F := F) (V (Proc.devRef .tc main_arg0)) (V (Proc.devRef .tc main_arg1)) := by
  refine (last 29 rfl (by decide) V).trans ((ternary_result' ..).trans ?_)
  rw [keep 29 (by decide), end_main_call1_v1, keep 29 (by decide), end_main_call1_v3, keep 29 (by decide), end_main_v15, Read.val_main_call1_v4]
  generalize Read.val_main_call1_v1 (F := F) (V (Proc.devRef .tc main_arg0)) (V (Proc.devRef .tc main_arg1)) = z0; generalize Read.val_main_call1_v3 (F := F) (V (Proc.devRef .tc main_arg0)) (V (Proc.devRef .tc main_arg1)) = z1; generalize Read.val_main_v15 (F := F) (V (Proc.devRef .tc main_arg0)) (V (Proc.devRef .tc main_arg1)) = z2
  revert z0 z1 z2
  refine id ?_
  intro z0 z1 z2
  rfl
/-- At the end `main_call1_v5` holds its value. -/
theorem end_main_call1_v5 (V : Valuation τ sig (Elt F)) : after ops V (Proc.devRef .tc main_call1_v5) = Read.val_main_call1_v5 (F := F) (V (Proc.devRef .tc main_arg0)) (V (Proc.devRef .tc main_arg1)) := by
  refine (last 30 rfl (by decide) V).trans ((unary_result' ..).trans ?_)
  rw [keep 30 (by decide), end_main_call1_v4, Read.val_main_call1_v5]
  generalize Read.val_main_call1_v4 (F := F) (V (Proc.devRef .tc main_arg0)) (V (Proc.devRef .tc main_arg1)) = z0
  revert z0
  refine id ?_
  intro z0
  rfl
/-- At the end `main_call1_c_1` holds its value. -/
theorem end_main_call1_c_1 (V : Valuation τ sig (Elt F)) : after ops V (Proc.devRef .tc main_call1_c_1) = Read.val_main_call1_c_1 (F := F) := by
  refine (last 31 rfl (by decide) V).trans ((nullary_result' ..).trans ?_)
  rw [Read.val_main_call1_c_1]
  rfl
/-- At the end `main_call1_c_2` holds its value. -/
theorem end_main_call1_c_2 (V : Valuation τ sig (Elt F)) : after ops V (Proc.devRef .tc main_call1_c_2) = Read.val_main_call1_c_2 (F := F) := by
  refine (last 32 rfl (by decide) V).trans ((nullary_result' ..).trans ?_)
  rw [Read.val_main_call1_c_2]
  rfl

end Cert.ReferenceIdeal.Value

end
-- ==== Proof.Ref.EndB.lean ====
/- What the buffers of operations 33 to 65 of the reference hold at the end. -/
module

public import proofs.«01_k».proof.Proof.Ref.EndA

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- At the end `main_call1_v6` holds its value. -/
theorem end_main_call1_v6 (V : Valuation τ sig (Elt F)) : after ops V (Proc.devRef .tc main_call1_v6) = Read.val_main_call1_v6 (F := F) := by
  refine (last 33 rfl (by decide) V).trans ((unary_result' ..).trans ?_)
  rw [keep 33 (by decide), end_main_call1_c_2, Read.val_main_call1_v6]
  generalize Read.val_main_call1_c_2 (F := F) = z0
  revert z0
  refine id ?_
  intro z0
  rfl
/-- At the end `main_call1_v7` holds its value. -/
theorem end_main_call1_v7 (V : Valuation τ sig (Elt F)) : after ops V (Proc.devRef .tc main_call1_v7) = Read.val_main_call1_v7 (F := F) (V (Proc.devRef .tc main_arg0)) (V (Proc.devRef .tc main_arg1)) := by
  refine (last 34 rfl (by decide) V).trans ((binary_result' ..).trans ?_)
  rw [keep 34 (by decide), end_main_call1_v5, keep 34 (by decide), end_main_call1_v6, Read.val_main_call1_v7]
  generalize Read.val_main_call1_v5 (F := F) (V (Proc.devRef .tc main_arg0)) (V (Proc.devRef .tc main_arg1)) = z0; generalize Read.val_main_call1_v6 (F := F) = z1
  revert z0 z1
  refine id ?_
  intro z0 z1
  rfl
/-- At the end `main_call1_v8` holds its value. -/
theorem end_main_call1_v8 (V : Valuation τ sig (Elt F)) : after ops V (Proc.devRef .tc main_call1_v8) = Read.val_main_call1_v8 (F := F) := by
  refine (last 35 rfl (by decide) V).trans ((unary_result' ..).trans ?_)
  rw [keep 35 (by decide), end_main_call1_c_1, Read.val_main_call1_v8]
  generalize Read.val_main_call1_c_1 (F := F) = z0
  revert z0
  refine id ?_
  intro z0
  rfl
/-- At the end `main_call1_v9` holds its value. -/
theorem end_main_call1_v9 (V : Valuation τ sig (Elt F)) : after ops V (Proc.devRef .tc main_call1_v9) = Read.val_main_call1_v9 (F := F) := by
  refine (last 36 rfl (by decide) V).trans ((unary_result' ..).trans ?_)
  rw [keep 36 (by decide), end_main_call1_v8, Read.val_main_call1_v9]
  generalize Read.val_main_call1_v8 (F := F) = z0
  revert z0
  refine id ?_
  intro z0
  rfl
/-- At the end `main_call1_v10` holds its value. -/
theorem end_main_call1_v10 (V : Valuation τ sig (Elt F)) : after ops V (Proc.devRef .tc main_call1_v10) = Read.val_main_call1_v10 (F := F) (V (Proc.devRef .tc main_arg0)) (V (Proc.devRef .tc main_arg1)) := by
  refine (last 37 rfl (by decide) V).trans ((binary_result' ..).trans ?_)
  rw [keep 37 (by decide), end_main_call1_v5, keep 37 (by decide), end_main_call1_v9, Read.val_main_call1_v10]
  generalize Read.val_main_call1_v5 (F := F) (V (Proc.devRef .tc main_arg0)) (V (Proc.devRef .tc main_arg1)) = z0; generalize Read.val_main_call1_v9 (F := F) = z1
  revert z0 z1
  refine id ?_
  intro z0 z1
  rfl
/-- At the end `main_call1_v11` holds its value. -/
theorem end_main_call1_v11 (V : Valuation τ sig (Elt F)) : after ops V (Proc.devRef .tc main_call1_v11) = Read.val_main_call1_v11 (F := F) (V (Proc.devRef .tc main_arg0)) (V (Proc.devRef .tc main_arg1)) := by
  refine (last 38 rfl (by decide) V).trans ((binary_result' ..).trans ?_)
  rw [keep 38 (by decide), end_main_call1_v7, keep 38 (by decide), end_main_call1_v10, Read.val_main_call1_v11]
  generalize Read.val_main_call1_v7 (F := F) (V (Proc.devRef .tc main_arg0)) (V (Proc.devRef .tc main_arg1)) = z0; generalize Read.val_main_call1_v10 (F := F) (V (Proc.devRef .tc main_arg0)) (V (Proc.devRef .tc main_arg1)) = z1
  revert z0 z1
  refine id ?_
  intro z0 z1
  rfl
/-- At the end `main_call1_c_3` holds its value. -/
theorem end_main_call1_c_3 (V : Valuation τ sig (Elt F)) : after ops V (Proc.devRef .tc main_call1_c_3) = Read.val_main_call1_c_3 (F := F) := by
  refine (last 39 rfl (by decide) V).trans ((nullary_result' ..).trans ?_)
  rw [Read.val_main_call1_c_3]
  rfl
attribute [local irreducible] Host.reduce in
/-- At the end `main_call1_v12` holds its value. -/
theorem end_main_call1_v12 (V : Valuation τ sig (Elt F)) : after ops V (Proc.devRef .tc main_call1_v12) = Read.val_main_call1_v12 (F := F) (V (Proc.devRef .tc main_arg0)) (V (Proc.devRef .tc main_arg1)) := by
  refine (last 40 rfl (by decide) V).trans ((binary_result' ..).trans ?_)
  rw [keep 40 (by decide), end_main_call1_v11, keep 40 (by decide), end_main_call1_c_3, Read.val_main_call1_v12]
  generalize Read.val_main_call1_v11 (F := F) (V (Proc.devRef .tc main_arg0)) (V (Proc.devRef .tc main_arg1)) = z0; generalize Read.val_main_call1_c_3 (F := F) = z1
  revert z0 z1
  refine id ?_
  intro z0 z1
  rfl
/-- At the end `main_call1_v13` holds its value. -/
theorem end_main_call1_v13 (V : Valuation τ sig (Elt F)) : after ops V (Proc.devRef .tc main_call1_v13) = Read.val_main_call1_v13 (F := F) (V (Proc.devRef .tc main_arg0)) (V (Proc.devRef .tc main_arg1)) := by
  refine (last 41 rfl (by decide) V).trans ((binary_result' ..).trans ?_)
  rw [keep 41 (by decide), end_main_arg1, keep 41 (by decide), end_main_call1_v5, Read.val_main_call1_v13]
  generalize Read.val_main_call1_v5 (F := F) (V (Proc.devRef .tc main_arg0)) (V (Proc.devRef .tc main_arg1)) = z1
  revert z1
  refine id ?_
  intro z1
  rfl
/-- At the end `main_call1_v14` holds its value. -/
theorem end_main_call1_v14 (V : Valuation τ sig (Elt F)) : after ops V (Proc.devRef .tc main_call1_v14) = Read.val_main_call1_v14 (F := F) (V (Proc.devRef .tc main_arg0)) (V (Proc.devRef .tc main_arg1)) := by
  refine (last 42 rfl (by decide) V).trans ((unary_result' ..).trans ?_)
  rw [keep 42 (by decide), end_main_call1_v12, Read.val_main_call1_v14]
  generalize Read.val_main_call1_v12 (F := F) (V (Proc.devRef .tc main_arg0)) (V (Proc.devRef .tc main_arg1)) = z0
  revert z0
  refine id ?_
  intro z0
  rfl
/-- At the end `main_call1_cst` holds its value. -/
theorem end_main_call1_cst (V : Valuation τ sig (Elt F)) : after ops V (Proc.devRef .tc main_call1_cst) = Read.val_main_call1_cst (F := F) := by
  refine (last 43 rfl (by decide) V).trans ((nullary_result' ..).trans ?_)
  rw [Read.val_main_call1_cst]
  rfl
/-- At the end `main_call1_v15` holds its value. -/
theorem end_main_call1_v15 (V : Valuation τ sig (Elt F)) : after ops V (Proc.devRef .tc main_call1_v15) = Read.val_main_call1_v15 (F := F) := by
  refine (last 44 rfl (by decide) V).trans ((unary_result' ..).trans ?_)
  rw [keep 44 (by decide), end_main_call1_cst, Read.val_main_call1_v15]
  generalize Read.val_main_call1_cst (F := F) = z0
  revert z0
  refine id ?_
  intro z0
  rfl
/-- At the end `main_v16` holds its value. -/
theorem end_main_v16 (V : Valuation τ sig (Elt F)) : after ops V (Proc.devRef .tc main_v16) = Read.val_main_v16 (F := F) (V (Proc.devRef .tc main_arg0)) (V (Proc.devRef .tc main_arg1)) := by
  refine (last 45 rfl (by decide) V).trans ((ternary_result' ..).trans ?_)
  rw [keep 45 (by decide), end_main_call1_v14, keep 45 (by decide), end_main_call1_v13, keep 45 (by decide), end_main_call1_v15, Read.val_main_v16]
  generalize Read.val_main_call1_v14 (F := F) (V (Proc.devRef .tc main_arg0)) (V (Proc.devRef .tc main_arg1)) = z0; generalize Read.val_main_call1_v13 (F := F) (V (Proc.devRef .tc main_arg0)) (V (Proc.devRef .tc main_arg1)) = z1; generalize Read.val_main_call1_v15 (F := F) = z2
  revert z0 z1 z2
  refine id ?_
  intro z0 z1 z2
  rfl
/-- At the end `main_v17` holds its value. -/
theorem end_main_v17 (V : Valuation τ sig (Elt F)) : after ops V (Proc.devRef .tc main_v17) = Read.val_main_v17 (F := F) (V (Proc.devRef .tc main_arg0)) (V (Proc.devRef .tc main_arg1)) := by
  refine (last 46 rfl (by decide) V).trans ((reshape_result' ..).trans ?_)
  rw [keep 46 (by decide), end_main_v16, Read.val_main_v17]
  generalize Read.val_main_v16 (F := F) (V (Proc.devRef .tc main_arg0)) (V (Proc.devRef .tc main_arg1)) = z0
  revert z0
  refine id ?_
  intro z0
  rfl
/-- At the end `main_v18` holds its value. -/
theorem end_main_v18 (V : Valuation τ sig (Elt F)) : after ops V (Proc.devRef .tc main_v18) = Read.val_main_v18 (F := F) (V (Proc.devRef .tc main_arg0)) (V (Proc.devRef .tc main_arg1)) := by
  refine (last 47 rfl (by decide) V).trans ((binary_result' ..).trans ?_)
  rw [keep 47 (by decide), end_main_arg0, keep 47 (by decide), end_main_v17, Read.val_main_v18]
/-- At the end `main_v19` holds its value. -/
theorem end_main_v19 (V : Valuation τ sig (Elt F)) : after ops V (Proc.devRef .tc main_v19) = Read.val_main_v19 (F := F) (V (Proc.devRef .tc main_arg0)) (V (Proc.devRef .tc main_arg1)) := by
  refine (last 48 rfl (by decide) V).trans ((binary_result' ..).trans ?_)
  rw [keep 48 (by decide), end_main_v18, Read.val_main_v19]
/-- At the end `main_cst_2` holds its value. -/
theorem end_main_cst_2 (V : Valuation τ sig (Elt F)) : after ops V (Proc.devRef .tc main_cst_2) = Read.val_main_cst_2 (F := F) := by
  refine (last 49 rfl (by decide) V).trans ((nullary_result' ..).trans ?_)
  rw [Read.val_main_cst_2]
/-- At the end `main_v20` holds its value. -/
theorem end_main_v20 (V : Valuation τ sig (Elt F)) : after ops V (Proc.devRef .tc main_v20) = Read.val_main_v20 (F := F) (V (Proc.devRef .tc main_arg0)) (V (Proc.devRef .tc main_arg1)) := by
  refine (last 50 rfl (by decide) V).trans ((binary_result' ..).trans ?_)
  rw [keep 50 (by decide), end_main_v19, keep 50 (by decide), end_main_cst_2, Read.val_main_v20]
/-- At the end `main_cst_3` holds its value. -/
theorem end_main_cst_3 (V : Valuation τ sig (Elt F)) : after ops V (Proc.devRef .tc main_cst_3) = Read.val_main_cst_3 (F := F) := by
  refine (last 51 rfl (by decide) V).trans ((nullary_result' ..).trans ?_)
  rw [Read.val_main_cst_3]
/-- At the end `main_v21` holds its value. -/
theorem end_main_v21 (V : Valuation τ sig (Elt F)) : after ops V (Proc.devRef .tc main_v21) = Read.val_main_v21 (F := F) (V (Proc.devRef .tc main_arg0)) (V (Proc.devRef .tc main_arg1)) := by
  refine (last 52 rfl (by decide) V).trans ((binary_result' ..).trans ?_)
  rw [keep 52 (by decide), end_main_v20, keep 52 (by decide), end_main_cst_3, Read.val_main_v21]
/-- At the end `main_v22` holds its value. -/
theorem end_main_v22 (V : Valuation τ sig (Elt F)) : after ops V (Proc.devRef .tc main_v22) = Read.val_main_v22 (F := F) (V (Proc.devRef .tc main_arg0)) (V (Proc.devRef .tc main_arg1)) := by
  refine (last 53 rfl (by decide) V).trans ((binary_result' ..).trans ?_)
  rw [keep 53 (by decide), end_main_arg0, keep 53 (by decide), end_main_v17, Read.val_main_v22]
/-- At the end `main_v23` holds its value. -/
theorem end_main_v23 (V : Valuation τ sig (Elt F)) : after ops V (Proc.devRef .tc main_v23) = Read.val_main_v23 (F := F) (V (Proc.devRef .tc main_arg0)) (V (Proc.devRef .tc main_arg1)) := by
  refine (last 54 rfl (by decide) V).trans ((binary_result' ..).trans ?_)
  rw [keep 54 (by decide), end_main_v22, Read.val_main_v23]
/-- At the end `main_cst_4` holds its value. -/
theorem end_main_cst_4 (V : Valuation τ sig (Elt F)) : after ops V (Proc.devRef .tc main_cst_4) = Read.val_main_cst_4 (F := F) := by
  refine (last 55 rfl (by decide) V).trans ((nullary_result' ..).trans ?_)
  rw [Read.val_main_cst_4]
/-- At the end `main_v24` holds its value. -/
theorem end_main_v24 (V : Valuation τ sig (Elt F)) : after ops V (Proc.devRef .tc main_v24) = Read.val_main_v24 (F := F) (V (Proc.devRef .tc main_arg0)) (V (Proc.devRef .tc main_arg1)) := by
  refine (last 56 rfl (by decide) V).trans ((binary_result' ..).trans ?_)
  rw [keep 56 (by decide), end_main_v23, keep 56 (by decide), end_main_cst_4, Read.val_main_v24]
/-- At the end `main_cst_5` holds its value. -/
theorem end_main_cst_5 (V : Valuation τ sig (Elt F)) : after ops V (Proc.devRef .tc main_cst_5) = Read.val_main_cst_5 (F := F) := by
  refine (last 57 rfl (by decide) V).trans ((nullary_result' ..).trans ?_)
  rw [Read.val_main_cst_5]
/-- At the end `main_v25` holds its value. -/
theorem end_main_v25 (V : Valuation τ sig (Elt F)) : after ops V (Proc.devRef .tc main_v25) = Read.val_main_v25 (F := F) (V (Proc.devRef .tc main_arg0)) (V (Proc.devRef .tc main_arg1)) := by
  refine (last 58 rfl (by decide) V).trans ((binary_result' ..).trans ?_)
  rw [keep 58 (by decide), end_main_v24, keep 58 (by decide), end_main_cst_5, Read.val_main_v25]
/-- At the end `main_v26` holds its value. -/
theorem end_main_v26 (V : Valuation τ sig (Elt F)) : after ops V (Proc.devRef .tc main_v26) = Read.val_main_v26 (F := F) (V (Proc.devRef .tc main_arg0)) (V (Proc.devRef .tc main_arg1)) := by
  refine (last 59 rfl (by decide) V).trans ((binary_result' ..).trans ?_)
  rw [keep 59 (by decide), end_main_v17, keep 59 (by decide), end_main_arg0, Read.val_main_v26]
/-- At the end `main_v27` holds its value. -/
theorem end_main_v27 (V : Valuation τ sig (Elt F)) : after ops V (Proc.devRef .tc main_v27) = Read.val_main_v27 (F := F) (V (Proc.devRef .tc main_arg0)) (V (Proc.devRef .tc main_arg1)) := by
  refine (last 60 rfl (by decide) V).trans ((binary_result' ..).trans ?_)
  rw [keep 60 (by decide), end_main_arg0, keep 60 (by decide), end_main_v26, Read.val_main_v27]
/-- At the end `main_cst_6` holds its value. -/
theorem end_main_cst_6 (V : Valuation τ sig (Elt F)) : after ops V (Proc.devRef .tc main_cst_6) = Read.val_main_cst_6 (F := F) := by
  refine (last 61 rfl (by decide) V).trans ((nullary_result' ..).trans ?_)
  rw [Read.val_main_cst_6]
/-- At the end `main_v28` holds its value. -/
theorem end_main_v28 (V : Valuation τ sig (Elt F)) : after ops V (Proc.devRef .tc main_v28) = Read.val_main_v28 (F := F) (V (Proc.devRef .tc main_arg0)) (V (Proc.devRef .tc main_arg1)) := by
  refine (last 62 rfl (by decide) V).trans ((binary_result' ..).trans ?_)
  rw [keep 62 (by decide), end_main_cst_6, keep 62 (by decide), end_main_v21, Read.val_main_v28]
/-- At the end `main_v29` holds its value. -/
theorem end_main_v29 (V : Valuation τ sig (Elt F)) : after ops V (Proc.devRef .tc main_v29) = Read.val_main_v29 (F := F) (V (Proc.devRef .tc main_arg0)) (V (Proc.devRef .tc main_arg1)) := by
  refine (last 63 rfl (by decide) V).trans ((binary_result' ..).trans ?_)
  rw [keep 63 (by decide), end_main_v25, keep 63 (by decide), end_main_v28, Read.val_main_v29]
/-- At the end `main_c` holds its value. -/
theorem end_main_c (V : Valuation τ sig (Elt F)) : after ops V (Proc.devRef .tc main_c) = Read.val_main_c (F := F) := by
  refine (last 64 rfl (by decide) V).trans ((nullary_result' ..).trans ?_)
  rw [Read.val_main_c]
/-- At the end `main_v30` holds its value. -/
theorem end_main_v30 (V : Valuation τ sig (Elt F)) : after ops V (Proc.devRef .tc main_v30) = Read.val_main_v30 (F := F) := by
  refine (last 65 rfl (by decide) V).trans ((unary_result' ..).trans ?_)
  rw [keep 65 (by decide), end_main_c, Read.val_main_v30]

end Cert.ReferenceIdeal.Value

end
-- ==== Proof.Ref.EndC.lean ====
/- What the buffers of operations 66 to 96 of the reference hold at the end. -/
module

public import proofs.«01_k».proof.Proof.Ref.EndB

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- At the end `main_c_7` holds its value. -/
theorem end_main_c_7 (V : Valuation τ sig (Elt F)) : after ops V (Proc.devRef .tc main_c_7) = Read.val_main_c_7 (F := F) := by
  refine (last 66 rfl (by decide) V).trans ((nullary_result' ..).trans ?_)
  rw [Read.val_main_c_7]
/-- At the end `main_call2_v0` holds its value. -/
theorem end_main_call2_v0 (V : Valuation τ sig (Elt F)) : after ops V (Proc.devRef .tc main_call2_v0) = Read.val_main_call2_v0 (F := F) := by
  refine (last 67 rfl (by decide) V).trans ((unary_result' ..).trans ?_)
  rw [keep 67 (by decide), end_main_c_7, Read.val_main_call2_v0]
  generalize Read.val_main_c_7 (F := F) = z0
  revert z0
  refine id ?_
  intro z0
  rfl
/-- At the end `main_call2_v1` holds its value. -/
theorem end_main_call2_v1 (V : Valuation τ sig (Elt F)) : after ops V (Proc.devRef .tc main_call2_v1) = Read.val_main_call2_v1 (F := F) := by
  refine (last 68 rfl (by decide) V).trans ((unary_result' ..).trans ?_)
  rw [keep 68 (by decide), end_main_call2_v0, Read.val_main_call2_v1]
  generalize Read.val_main_call2_v0 (F := F) = z0
  revert z0
  refine id ?_
  intro z0
  rfl
/-- At the end `main_v31` holds its value. -/
theorem end_main_v31 (V : Valuation τ sig (Elt F)) : after ops V (Proc.devRef .tc main_v31) = Read.val_main_v31 (F := F) (V (Proc.devRef .tc main_arg0)) (V (Proc.devRef .tc main_arg1)) := by
  refine (last 69 rfl (by decide) V).trans ((binary_result' ..).trans ?_)
  rw [keep 69 (by decide), end_main_call2_v1, keep 69 (by decide), end_main_v15, Read.val_main_v31]
  generalize Read.val_main_call2_v1 (F := F) = z0; generalize Read.val_main_v15 (F := F) (V (Proc.devRef .tc main_arg0)) (V (Proc.devRef .tc main_arg1)) = z1
  revert z0 z1
  refine id ?_
  intro z0 z1
  rfl
/-- At the end `main_c_8` holds its value. -/
theorem end_main_c_8 (V : Valuation τ sig (Elt F)) : after ops V (Proc.devRef .tc main_c_8) = Read.val_main_c_8 (F := F) := by
  refine (last 70 rfl (by decide) V).trans ((nullary_result' ..).trans ?_)
  rw [Read.val_main_c_8]
/-- At the end `main_v32` holds its value. -/
theorem end_main_v32 (V : Valuation τ sig (Elt F)) : after ops V (Proc.devRef .tc main_v32) = Read.val_main_v32 (F := F) := by
  refine (last 71 rfl (by decide) V).trans ((unary_result' ..).trans ?_)
  rw [keep 71 (by decide), end_main_c_8, Read.val_main_v32]
/-- At the end `main_v33` holds its value. -/
theorem end_main_v33 (V : Valuation τ sig (Elt F)) : after ops V (Proc.devRef .tc main_v33) = Read.val_main_v33 (F := F) (V (Proc.devRef .tc main_arg0)) (V (Proc.devRef .tc main_arg1)) := by
  refine (last 72 rfl (by decide) V).trans ((binary_result' ..).trans ?_)
  rw [keep 72 (by decide), end_main_v31, keep 72 (by decide), end_main_v32, Read.val_main_v33]
/-- At the end `main_c_9` holds its value. -/
theorem end_main_c_9 (V : Valuation τ sig (Elt F)) : after ops V (Proc.devRef .tc main_c_9) = Read.val_main_c_9 (F := F) := by
  refine (last 73 rfl (by decide) V).trans ((nullary_result' ..).trans ?_)
  rw [Read.val_main_c_9]
/-- At the end `main_v34` holds its value. -/
theorem end_main_v34 (V : Valuation τ sig (Elt F)) : after ops V (Proc.devRef .tc main_v34) = Read.val_main_v34 (F := F) := by
  refine (last 74 rfl (by decide) V).trans ((unary_result' ..).trans ?_)
  rw [keep 74 (by decide), end_main_c_9, Read.val_main_v34]
/-- At the end `main_v35` holds its value. -/
theorem end_main_v35 (V : Valuation τ sig (Elt F)) : after ops V (Proc.devRef .tc main_v35) = Read.val_main_v35 (F := F) (V (Proc.devRef .tc main_arg0)) (V (Proc.devRef .tc main_arg1)) := by
  refine (last 75 rfl (by decide) V).trans ((binary_result' ..).trans ?_)
  rw [keep 75 (by decide), end_main_v31, keep 75 (by decide), end_main_v34, Read.val_main_v35]
/-- At the end `main_v36` holds its value. -/
theorem end_main_v36 (V : Valuation τ sig (Elt F)) : after ops V (Proc.devRef .tc main_v36) = Read.val_main_v36 (F := F) (V (Proc.devRef .tc main_arg0)) (V (Proc.devRef .tc main_arg1)) := by
  refine (last 76 rfl (by decide) V).trans ((ternary_result' ..).trans ?_)
  rw [keep 76 (by decide), end_main_v33, keep 76 (by decide), end_main_v35, keep 76 (by decide), end_main_v31, Read.val_main_v36]
/-- At the end `main_v37` holds its value. -/
theorem end_main_v37 (V : Valuation τ sig (Elt F)) : after ops V (Proc.devRef .tc main_v37) = Read.val_main_v37 (F := F) (V (Proc.devRef .tc main_arg0)) (V (Proc.devRef .tc main_arg1)) := by
  refine (last 77 rfl (by decide) V).trans ((unary_result' ..).trans ?_)
  rw [keep 77 (by decide), end_main_v36, Read.val_main_v37]
/-- At the end `main_c_10` holds its value. -/
theorem end_main_c_10 (V : Valuation τ sig (Elt F)) : after ops V (Proc.devRef .tc main_c_10) = Read.val_main_c_10 (F := F) := by
  refine (last 78 rfl (by decide) V).trans ((nullary_result' ..).trans ?_)
  rw [Read.val_main_c_10]
/-- At the end `main_v38` holds its value. -/
theorem end_main_v38 (V : Valuation τ sig (Elt F)) : after ops V (Proc.devRef .tc main_v38) = Read.val_main_v38 (F := F) := by
  refine (last 79 rfl (by decide) V).trans ((unary_result' ..).trans ?_)
  rw [keep 79 (by decide), end_main_c_10, Read.val_main_v38]
/-- At the end `main_v39` holds its value. -/
theorem end_main_v39 (V : Valuation τ sig (Elt F)) : after ops V (Proc.devRef .tc main_v39) = Read.val_main_v39 (F := F) (V (Proc.devRef .tc main_arg0)) (V (Proc.devRef .tc main_arg1)) := by
  refine (last 80 rfl (by decide) V).trans ((ternary_result' ..).trans ?_)
  rw [keep 80 (by decide), end_main_v30, keep 80 (by decide), end_main_v37, keep 80 (by decide), end_main_v38, Read.val_main_v39]
/-- At the end `main_v40` holds its value. -/
theorem end_main_v40 (V : Valuation τ sig (Elt F)) : after ops V (Proc.devRef .tc main_v40) = Read.val_main_v40 (F := F) (V (Proc.devRef .tc main_arg0)) (V (Proc.devRef .tc main_arg1)) := by
  refine (last 81 rfl (by decide) V).trans ((unary_result' ..).trans ?_)
  rw [keep 81 (by decide), end_main_v39, Read.val_main_v40]
/-- At the end `main_cst_11` holds its value. -/
theorem end_main_cst_11 (V : Valuation τ sig (Elt F)) : after ops V (Proc.devRef .tc main_cst_11) = Read.val_main_cst_11 (F := F) := by
  refine (last 82 rfl (by decide) V).trans ((nullary_result' ..).trans ?_)
  rw [Read.val_main_cst_11]
/-- At the end `main_v41` holds its value. -/
theorem end_main_v41 (V : Valuation τ sig (Elt F)) : after ops V (Proc.devRef .tc main_v41) = Read.val_main_v41 (F := F) := by
  refine (last 83 rfl (by decide) V).trans ((unary_result' ..).trans ?_)
  rw [keep 83 (by decide), end_main_cst_11, Read.val_main_v41]
/-- At the end `main_v42` holds its value. -/
theorem end_main_v42 (V : Valuation τ sig (Elt F)) : after ops V (Proc.devRef .tc main_v42) = Read.val_main_v42 (F := F) (V (Proc.devRef .tc main_arg0)) (V (Proc.devRef .tc main_arg1)) := by
  refine (last 84 rfl (by decide) V).trans ((binary_result' ..).trans ?_)
  rw [keep 84 (by decide), end_main_v40, keep 84 (by decide), end_main_v41, Read.val_main_v42]
/-- At the end `main_cst_12` holds its value. -/
theorem end_main_cst_12 (V : Valuation τ sig (Elt F)) : after ops V (Proc.devRef .tc main_cst_12) = Read.val_main_cst_12 (F := F) := by
  refine (last 85 rfl (by decide) V).trans ((nullary_result' ..).trans ?_)
  rw [Read.val_main_cst_12]
/-- At the end `main_v43` holds its value. -/
theorem end_main_v43 (V : Valuation τ sig (Elt F)) : after ops V (Proc.devRef .tc main_v43) = Read.val_main_v43 (F := F) := by
  refine (last 86 rfl (by decide) V).trans ((unary_result' ..).trans ?_)
  rw [keep 86 (by decide), end_main_cst_12, Read.val_main_v43]
/-- At the end `main_v44` holds its value. -/
theorem end_main_v44 (V : Valuation τ sig (Elt F)) : after ops V (Proc.devRef .tc main_v44) = Read.val_main_v44 (F := F) (V (Proc.devRef .tc main_arg0)) (V (Proc.devRef .tc main_arg1)) := by
  refine (last 87 rfl (by decide) V).trans ((binary_result' ..).trans ?_)
  rw [keep 87 (by decide), end_main_v42, keep 87 (by decide), end_main_v43, Read.val_main_v44]
/-- At the end `main_v45` holds its value. -/
theorem end_main_v45 (V : Valuation τ sig (Elt F)) : after ops V (Proc.devRef .tc main_v45) = Read.val_main_v45 (F := F) (V (Proc.devRef .tc main_arg0)) (V (Proc.devRef .tc main_arg1)) := by
  refine (last 88 rfl (by decide) V).trans ((unary_result' ..).trans ?_)
  rw [keep 88 (by decide), end_main_v44, Read.val_main_v45]
/-- At the end `main_v46` holds its value. -/
theorem end_main_v46 (V : Valuation τ sig (Elt F)) : after ops V (Proc.devRef .tc main_v46) = Read.val_main_v46 (F := F) (V (Proc.devRef .tc main_arg0)) (V (Proc.devRef .tc main_arg1)) := by
  refine (last 89 rfl (by decide) V).trans ((binary_result' ..).trans ?_)
  rw [keep 89 (by decide), end_main_v42, keep 89 (by decide), end_main_v45, Read.val_main_v46]
/-- At the end `main_cst_13` holds its value. -/
theorem end_main_cst_13 (V : Valuation τ sig (Elt F)) : after ops V (Proc.devRef .tc main_cst_13) = Read.val_main_cst_13 (F := F) := by
  refine (last 90 rfl (by decide) V).trans ((nullary_result' ..).trans ?_)
  rw [Read.val_main_cst_13]
/-- At the end `main_v47` holds its value. -/
theorem end_main_v47 (V : Valuation τ sig (Elt F)) : after ops V (Proc.devRef .tc main_v47) = Read.val_main_v47 (F := F) (V (Proc.devRef .tc main_arg0)) (V (Proc.devRef .tc main_arg1)) := by
  refine (last 91 rfl (by decide) V).trans ((binary_result' ..).trans ?_)
  rw [keep 91 (by decide), end_main_v46, keep 91 (by decide), end_main_cst_13, Read.val_main_v47]
/-- At the end `main_v48` holds its value. -/
theorem end_main_v48 (V : Valuation τ sig (Elt F)) : after ops V (Proc.devRef .tc main_v48) = Read.val_main_v48 (F := F) (V (Proc.devRef .tc main_arg0)) (V (Proc.devRef .tc main_arg1)) := by
  refine (last 92 rfl (by decide) V).trans ((unary_result' ..).trans ?_)
  rw [keep 92 (by decide), end_main_v47, Read.val_main_v48]
/-- At the end `main_v49` holds its value. -/
theorem end_main_v49 (V : Valuation τ sig (Elt F)) : after ops V (Proc.devRef .tc main_v49) = Read.val_main_v49 (F := F) (V (Proc.devRef .tc main_arg0)) (V (Proc.devRef .tc main_arg1)) := by
  refine (last 93 rfl (by decide) V).trans ((unary_result' ..).trans ?_)
  rw [keep 93 (by decide), end_main_v48, Read.val_main_v49]
/-- At the end `main_v50` holds its value. -/
theorem end_main_v50 (V : Valuation τ sig (Elt F)) : after ops V (Proc.devRef .tc main_v50) = Read.val_main_v50 (F := F) (V (Proc.devRef .tc main_arg0)) (V (Proc.devRef .tc main_arg1)) := by
  refine (last 94 rfl (by decide) V).trans ((reshape_result' ..).trans ?_)
  rw [keep 94 (by decide), end_main_v15, Read.val_main_v50]
  generalize Read.val_main_v15 (F := F) (V (Proc.devRef .tc main_arg0)) (V (Proc.devRef .tc main_arg1)) = z0
  revert z0
  refine id ?_
  intro z0
  rfl
/-- At the end `main_v51` holds its value. -/
theorem end_main_v51 (V : Valuation τ sig (Elt F)) : after ops V (Proc.devRef .tc main_v51) = Read.val_main_v51 (F := F) (V (Proc.devRef .tc main_arg0)) (V (Proc.devRef .tc main_arg1)) := by
  refine (last 95 rfl (by decide) V).trans ((reshape_result' ..).trans ?_)
  rw [keep 95 (by decide), end_main_v29, Read.val_main_v51]
  generalize Read.val_main_v29 (F := F) (V (Proc.devRef .tc main_arg0)) (V (Proc.devRef .tc main_arg1)) = z0
  revert z0
  refine id ?_
  intro z0
  rfl
/-- At the end `main_v52` holds its value. -/
theorem end_main_v52 (V : Valuation τ sig (Elt F)) : after ops V (Proc.devRef .tc main_v52) = Read.val_main_v52 (F := F) (V (Proc.devRef .tc main_arg0)) (V (Proc.devRef .tc main_arg1)) := by
  refine (last 96 rfl (by decide) V).trans ((reshape_result' ..).trans ?_)
  rw [keep 96 (by decide), end_main_v49, Read.val_main_v52]
  generalize Read.val_main_v49 (F := F) (V (Proc.devRef .tc main_arg0)) (V (Proc.devRef .tc main_arg1)) = z0
  revert z0
  refine id ?_
  intro z0
  rfl

end Cert.ReferenceIdeal.Value

end
-- ==== Proof.Ref.Run.lean ====
/- The reference program's run: every execution ends with each result buffer at the composition of the operations (the values
   named in `Ref.Vals`) and the arguments unchanged. -/
module

public import proofs.«01_k».proof.Proof.Ref.EndC

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- From any memory with zero counters, every execution of the reference ends with each result at its composed value
    of the arguments, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = Read.val_main_v27 (F := F) (m ((c.tc : Thread nD τ).loc main_arg0)) (m ((c.tc : Thread nD τ).loc main_arg1))
      ∧ r.2.mem ((c.tc : Thread nD τ).loc main_v50) = Read.val_main_v50 (F := F) (m ((c.tc : Thread nD τ).loc main_arg0)) (m ((c.tc : Thread nD τ).loc main_arg1))
      ∧ r.2.mem ((c.tc : Thread nD τ).loc main_v51) = Read.val_main_v51 (F := F) (m ((c.tc : Thread nD τ).loc main_arg0)) (m ((c.tc : Thread nD τ).loc main_arg1))
      ∧ r.2.mem ((c.tc : Thread nD τ).loc main_v52) = Read.val_main_v52 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (end_main_v27 _),
      (h c main_v50).trans (end_main_v50 _),
      (h c main_v51).trans (end_main_v51 _),
      (h c main_v52).trans (end_main_v52 _),
      (h c main_arg0).trans (end_main_arg0 _),
      (h c main_arg1).trans (end_main_arg1 _)⟩)
    (run_seq scopedRefs_eq scopedSems_eq defs main (fun _ => ops) main_eq (fun _ => ops_sub) m ρ)

end Cert.ReferenceIdeal.Value

end
-- ==== Proof.Ref.Pick.lean ====
/- The reference's arg-min over one axis, read at a place: the word of the first index at which the values are least. -/
module

public import proofs.«01_k».proof.Proof.Gen.ReferenceIdeal
public import proofs.«01_k».proof.Proof.Argmin
public import Idealize.ShloMosaic.PureOps.Reduce
public import Idealize.ShloMosaic.PureOps.Ideal.Laws

@[expose] public section

noncomputable section

open Idealize.ShloMosaic

namespace Cert.ReferenceIdeal.Pick

open Cert.ReferenceIdeal Cert.Argmin

/-- The reduction's body takes the first pair where its value is smaller, or equal with a smaller index. -/
theorem body_eq (a b : EReal × BitVec 32) :
    reducer_argmin_f32_i32 (F := Ideal) a b
      = if a.1 < b.1 then a else if a.1 = b.1 then (if a.2.toInt < b.2.toInt then a else b) else b := by
  obtain ⟨a1, a2⟩ := a
  obtain ⟨b1, b2⟩ := b
  show ((Scalar.select (IntOp.ori (Ideal.cmp .olt a1 b1) (Ideal.cmp .une a1 a1)) a1 b1,
    Scalar.select (IntOp.ori (IntOp.ori (Ideal.cmp .olt a1 b1) (Ideal.cmp .une a1 a1))
      (IntOp.andi (Ideal.cmp .oeq a1 b1) (IntOp.cmpi .slt a2 b2))) a2 b2) : EReal × BitVec 32) = _
  have hs : IntOp.cmpi .slt a2 b2 = if a2.toInt < b2.toInt then 1#1 else 0#1 := by
    by_cases h : a2.toInt < b2.toInt
    · rw [if_pos h]; simp [IntOp.cmpi, BitVec.slt, h]
    · rw [if_neg h]; simp [IntOp.cmpi, BitVec.slt, h]
  rw [hs]
  by_cases h : a1 < b1
  · simp [Ideal.cmp, Scalar.select, IntOp.ori, IntOp.andi, h, h.ne]
  · by_cases he : a1 = b1
    · by_cases hi : a2.toInt < b2.toInt
      · simp [Ideal.cmp, Scalar.select, IntOp.ori, IntOp.andi, he, hi]
      · simp [Ideal.cmp, Scalar.select, IntOp.ori, IntOp.andi, he, hi]
    · simp [Ideal.cmp, Scalar.select, IntOp.ori, IntOp.andi, h, he]

/-- The body returns one of its two pairs. -/
theorem body_mem (a b : EReal × BitVec 32) :
    reducer_argmin_f32_i32 (F := Ideal) a b = a ∨ reducer_argmin_f32_i32 (F := Ideal) a b = b := by
  rw [body_eq]; split_ifs <;> simp

/-- The body's pair is not above its first. -/
theorem body_left (a b : EReal × BitVec 32) : PairLe (reducer_argmin_f32_i32 (F := Ideal) a b) a := by
  rw [body_eq]
  split_ifs with h he hi
  · exact .refl _
  · exact .refl _
  · exact .inr ⟨he.symm, not_lt.1 hi⟩
  · exact .inl (lt_of_le_of_ne (not_lt.1 h) (Ne.symm he))

/-- The body's pair is not above its second. -/
theorem body_right (a b : EReal × BitVec 32) : PairLe (reducer_argmin_f32_i32 (F := Ideal) a b) b := by
  rw [body_eq]
  split_ifs with h he hi
  · exact .inl h
  · exact .inr ⟨he, hi.le⟩
  · exact .refl _
  · exact .refl _

/-- The arg-min at `j`, where the entries that reduce to `j` are the pairs of a value and its index. -/
theorem argmin_at {s t u : Shape} {axes : List (Fin s.rank)} (x : FVec Ideal s .f32) (y : IVec s 32)
    (ix : u.Idx → Ideal .f32) (iy : u.Idx → BitVec 32) (h : s.ReducesTo axes t) (hu : 0 < u.numel) (j : t.Idx)
    (f : Fin 1024 → EReal) (hix : ix (Shape.Idx.first hu) = (⊤ : EReal)) (hiy : iy (Shape.Idx.first hu) = 0#32)
    (e : Fin 1024 → s.Idx) (he : ∀ k, h.drop (e k) = j) (hs : ∀ i, h.drop i = j → ∃ k, i = e k)
    (hx : ∀ k, x (e k) = f k) (hy : ∀ k, y (e k) = BitVec.ofNat 32 k.val) :
    (Host.argReduce reducer_argmin_f32_i32 x y ix iy h hu j).2 = BitVec.ofNat 32 (first f).val := by
  rw [Ideal.argReduce_eq_reduce2, Host.reduce2_eq_foldl_fiber, hix, hiy]
  refine foldl_first _ body_mem body_left body_right f _ fun p => ?_
  rw [Host.argReduceFiber, List.mem_map]
  constructor
  · rintro ⟨n, hn, rfl⟩
    obtain ⟨k, hk⟩ := hs _ (of_decide_eq_true (List.mem_filter.1 hn).2)
    exact ⟨k, by rw [hk, hx, hy]⟩
  · rintro ⟨k, rfl⟩
    refine ⟨s.rowMajor (e k), List.mem_filter.2 ⟨List.mem_finRange _, ?_⟩, ?_⟩
    · rw [Equiv.symm_apply_apply]; exact decide_eq_true (he k)
    · rw [Equiv.symm_apply_apply, hx, hy]

end Cert.ReferenceIdeal.Pick

end
-- ==== Proof.Ref.Near.lean ====
/- The reference's distances and its arg-min, read at a place: the index it takes is the first nearest codebook entry. -/
module

public import proofs.«01_k».proof.Proof.Ref.Vals
public import proofs.«01_k».proof.Proof.Ref.Pick
public import proofs.«01_k».proof.Proof.Spec
public import proofs.«01_k».proof.Proof.Consts
public import Idealize.ShloMosaic.Lib.Pointwise
public import Idealize.ShloMosaic.PureOps.Reduce

@[expose] public section

set_option maxRecDepth 16384

noncomputable section

open Idealize.ShloMosaic Idealize.ShloMosaic.TcCoe Idealize.SL.Sem

namespace Cert.ReferenceIdeal.Near

open Cert.ReferenceIdeal Cert.ReferenceIdeal.Gen Cert.ReferenceIdeal.Read

variable (x0 : (⟨S32x1024x64, .f32⟩ : BufTy).Contents (Elt Ideal)) (x1 : (⟨S1024x64, .f32⟩ : BufTy).Contents (Elt Ideal))

/-- The vectors, by place and coordinate. -/
def X : Fin 32 → Fin 1024 → Fin 64 → EReal := fun b t d => x0 (ix3 b t d)

/-- The codebook, by entry and coordinate. -/
def C : Fin 1024 → Fin 64 → EReal := fun k d => x1 (ix2 k d)

/-- The first coordinate of a flat place. -/
def fB (n : Fin 32768) : Fin 32 := ⟨n.val / 1024, by omega⟩

/-- The second coordinate of a flat place. -/
def fT (n : Fin 32768) : Fin 1024 := ⟨n.val % 1024, by omega⟩

/-- The flattened vectors. -/
theorem v0_at (n : Fin 32768) (d : Fin 64) : val_main_v0 (F := Ideal) x0 (ix2 n d) = X x0 (fB n) (fT n) d := by
  rw [val_main_v0_apply]
  refine congrArg x0 (funext fun a => Fin.ext ?_)
  have hd := d.isLt
  match a with
  | ⟨0, _⟩ => show (n.val * 64 + d.val) / 65536 = n.val / 1024; omega
  | ⟨1, _⟩ => show (n.val * 64 + d.val) / 64 % 1024 = n.val % 1024; omega
  | ⟨2, _⟩ => show (n.val * 64 + d.val) % 64 = d.val; omega

/-- The distances. -/
theorem v14_at (n : Fin 32768) (k : Fin 1024) :
    val_main_v14 (F := Ideal) x0 x1 (ix2 n k) = Spec.dist (X x0) (C x1) (fB n) (fT n) k := by
  have h0 := v0_at x0
  unfold Spec.dist
  pointwise [val_main_v14, val_main_v9, val_main_v13, val_main_v12, val_main_cst_1, val_main_v11, val_main_v10, val_main_v8,
    val_main_v7, val_main_v6, val_main_v5, val_main_v4, val_main_v3, val_main_v2, val_main_v1, val_main_cst, val_main_cst_0, h0]
  rw [Consts.two]
  rfl

/-- Reducing the second axis keeps the first coordinate. -/
theorem drop_at (h : S32768x1024.ReducesTo [1] S32768) (n : Fin 32768) (k : Fin 1024) : h.drop (ix2 n k) = ix1 n := by
  funext a
  match a with
  | ⟨0, _⟩ => rfl

/-- An index that reduces to `n` has `n` for its first coordinate. -/
theorem eq_of_drop (h : S32768x1024.ReducesTo [1] S32768) (n : Fin 32768) (i : S32768x1024.Idx) (hi : h.drop i = ix1 n) :
    ∃ k : Fin 1024, i = ix2 n k := by
  have hn : i 0 = n := congrFun hi 0
  refine ⟨i 1, funext fun a => ?_⟩
  match a with
  | ⟨0, _⟩ => exact hn
  | ⟨1, _⟩ => rfl

/-- The arg-min of an array at a flat place. -/
theorem argReduce_at (n : Fin 32768) (x : FVec Ideal S32768x1024 .f32) (y : IVec S32768x1024 32) (a : FVec Ideal S_ .f32)
    (b : IVec S_ 32) (f : Fin 1024 → EReal) (hx : ∀ k, x (ix2 n k) = f k) (hy : ∀ k, y (ix2 n k) = BitVec.ofNat 32 k.val)
    (ha : a (Shape.Idx.first h_S_) = (⊤ : EReal)) (hb : b (Shape.Idx.first h_S_) = 0#32) :
    (Host.argReduce reducer_argmin_f32_i32 x y a b reducesTo_S32768x1024_S32768_d1 h_S_ (ix1 n)).2
      = BitVec.ofNat 32 (Argmin.first f).val :=
  Pick.argmin_at x y a b _ _ _ f ha hb (fun k => ix2 n k) (fun k => drop_at _ n k) (fun i hi => eq_of_drop _ n i hi) hx hy

/-- The indices of the arg-min, as a function. -/
theorem argminIdx_eq (x : FVec Ideal S32768x1024 .f32) (y : IVec S32768x1024 32) (a : FVec Ideal S_ .f32) (b : IVec S_ 32) :
    argminIdx x y a b
      = fun j => (Host.argReduce reducer_argmin_f32_i32 x y a b reducesTo_S32768x1024_S32768_d1 h_S_ j).2 := rfl

attribute [local irreducible] Host.argReduce in
/-- The index taken at a flat place. -/
theorem v15_at (n : Fin 32768) :
    val_main_v15 (F := Ideal) x0 x1 (ix1 n) = BitVec.ofNat 32 (Spec.best (X x0) (C x1) (fB n) (fT n)).val := by
  have h := argReduce_at n (val_main_v14 (F := Ideal) x0 x1) (val_main_call0_v0 (F := Ideal)) (val_main_call0_cst (F := Ideal))
    (val_main_call0_c (F := Ideal)) _ (v14_at x0 x1 n) (fun k => rfl) Consts.infinity rfl
  have e : val_main_v15 (F := Ideal) x0 x1 = _ := argminIdx_eq _ _ _ _
  rw [e]
  exact h

end Cert.ReferenceIdeal.Near

end
-- ==== Proof.Ref.Words.lean ====
/- Facts on 32-bit words that hold an index below 1024, and on a conjunction folded over entries that are all true. -/
module

public import proofs.«01_k».proof.Proof.Argmin
public import Idealize.ShloMosaic.PureOps.Contract

@[expose] public section

noncomputable section

open Idealize.ShloMosaic

namespace Cert.Words

open Cert.Argmin

/-- An index is not negative. -/
theorem slt_zero (k : Fin 1024) : IntOp.cmpi .slt (BitVec.ofNat 32 k.val) 0#32 = 0#1 := by
  have h : ¬ ((k.val : ℤ) < 0) := by omega
  simp [IntOp.cmpi, BitVec.slt, toInt_ofNat, h]

/-- An index is at least zero. -/
theorem sge_zero (k : Fin 1024) : IntOp.cmpi .sge (BitVec.ofNat 32 k.val) 0#32 = 1#1 := by
  have h : (0 : ℤ) ≤ (k.val : ℤ) := by omega
  simp [IntOp.cmpi, BitVec.sle, toInt_ofNat, h]

/-- An index is at most 1023. -/
theorem sle_last (k : Fin 1024) : IntOp.cmpi .sle (BitVec.ofNat 32 k.val) 1023#32 = 1#1 := by
  have e : (1023#32 : BitVec 32).toInt = 1023 := by decide
  have h : (k.val : ℤ) ≤ 1023 := by have := k.isLt; omega
  simp [IntOp.cmpi, BitVec.sle, toInt_ofNat, e, h]

/-- The larger of zero and an index is the index. -/
theorem max_zero (k : Fin 1024) : IntOp.maxsi 0#32 (BitVec.ofNat 32 k.val) = BitVec.ofNat 32 k.val := by
  have h := toInt_ofNat k
  unfold IntOp.maxsi
  apply BitVec.eq_of_toInt_eq
  split
  · next hs =>
    simp only [BitVec.slt, h, BitVec.toInt_zero, decide_eq_true_eq] at hs
    rw [h, BitVec.toInt_zero]
    omega
  · rfl

/-- A conjunction over entries that are all true, from true, is true. -/
theorem reduce_and_true {s t u : Shape} {axes : List (Fin s.rank)} (x : IVec s 1) (init : IVec u 1) (h : s.ReducesTo axes t)
    (hu : 0 < u.numel) (j : t.Idx) (hx : ∀ i, x i = 1#1) (hi : init (Shape.Idx.first hu) = 1#1) :
    Host.reduce IntOp.andi x init h hu j = 1#1 := by
  unfold Host.reduce
  rw [hi]
  generalize List.filter _ _ = L
  induction L with
  | nil => rfl
  | cons n L ih => rw [List.foldl_cons, hx]; exact ih

end Cert.Words

end
-- ==== Proof.Ref.Take.lean ====
/- The reference's lookup: at each place, the codebook entry nearest to the vector there; and the first two results. -/
module

public import proofs.«01_k».proof.Proof.Ref.Near
public import proofs.«01_k».proof.Proof.Ref.Words
public import Idealize.ShloMosaic.Lib.Routing.Ops

@[expose] public section

set_option maxRecDepth 16384

noncomputable section

open Idealize.ShloMosaic Idealize.ShloMosaic.TcCoe Idealize.SL.Sem

namespace Cert.ReferenceIdeal.Take

open Cert.ReferenceIdeal Cert.ReferenceIdeal.Gen Cert.ReferenceIdeal.Read Cert.ReferenceIdeal.Near

variable (x0 : (⟨S32x1024x64, .f32⟩ : BufTy).Contents (Elt Ideal)) (x1 : (⟨S1024x64, .f32⟩ : BufTy).Contents (Elt Ideal))

/-- The nearest entry at a flat place. -/
def best (n : Fin 32768) : Fin 1024 := Spec.best (X x0) (C x1) (fB n) (fT n)

/-- The index looked up, after negative indices are wrapped: the nearest entry. -/
theorem v4_at (n : Fin 32768) : val_main_call1_v4 (F := Ideal) x0 x1 (ix1 n) = BitVec.ofNat 32 (best x0 x1 n).val := by
  rw [val_main_call1_v4_apply, val_main_call1_v1_apply, v15_at, val_main_call1_v0_apply, val_main_call1_c_apply, Words.slt_zero]
  rfl

/-- The same as a column. -/
theorem v5_at (n : Fin 32768) (z : Fin 1) :
    val_main_call1_v5 (F := Ideal) x0 x1 (ix2 n z) = BitVec.ofNat 32 (best x0 x1 n).val := by
  rw [val_main_call1_v5_apply, ← v4_at]
  refine congrArg _ (funext fun a => ?_)
  match a with
  | ⟨0, _⟩ => rfl

/-- Every index looked up is in range. -/
theorem v11_at (i : S32768x1.Idx) : val_main_call1_v11 (F := Ideal) x0 x1 i = 1#1 := by
  obtain ⟨n, z, rfl⟩ : ∃ (n : Fin 32768) (z : Fin 1), i = ix2 n z := by
    refine ⟨i 0, i 1, funext fun a => ?_⟩
    match a with
    | ⟨0, _⟩ => rfl
    | ⟨1, _⟩ => rfl
  rw [val_main_call1_v11_apply, val_main_call1_v7_apply, val_main_call1_v10_apply, v5_at, val_main_call1_v6_apply,
    val_main_call1_c_2_apply, val_main_call1_v9_apply, val_main_call1_v8_apply, val_main_call1_c_1_apply, Words.sge_zero, Words.sle_last]
  rfl

/-- So the mask of the lookup is true everywhere. -/
theorem v12_at (j : S32768.Idx) : val_main_call1_v12 (F := Ideal) x0 x1 j = 1#1 :=
  Words.reduce_and_true (val_main_call1_v11 (F := Ideal) x0 x1) _ _ _ j (v11_at x0 x1) rfl

/-- The gathered row. -/
theorem v13_at (n : Fin 32768) (d : Fin 64) :
    val_main_call1_v13 (F := Ideal) x0 x1 (ix2 n d) = C x1 (best x0 x1 n) d := by
  have h := v5_at x0 x1 n 0
  unfold val_main_call1_v13
  generalize val_main_call1_v5 (F := Ideal) x0 x1 = idx at h ⊢
  exact Routing.gather_row gather_S1024x64_S32768x1_S32768x64_1_0_n_n_0_1_164 rfl rfl rfl rfl rfl x1 idx n d _ h (by norm_num)

/-- The row looked up is the nearest entry. -/
theorem v16_at (n : Fin 32768) (d : Fin 64) :
    val_main_v16 (F := Ideal) x0 x1 (ix2 n d) = C x1 (best x0 x1 n) d := by
  rw [val_main_v16_apply, val_main_call1_v14_apply, v12_at, v13_at]
  rfl

/-- The flat place of a place. -/
def flat (b : Fin 32) (t : Fin 1024) : Fin 32768 := ⟨b.val * 1024 + t.val, by omega⟩

/-- The first coordinate of a place's flat place. -/
theorem fB_flat (b : Fin 32) (t : Fin 1024) : fB (flat b t) = b := Fin.ext (by show (b.val * 1024 + t.val) / 1024 = b.val; omega)

/-- The second coordinate of a place's flat place. -/
theorem fT_flat (b : Fin 32) (t : Fin 1024) : fT (flat b t) = t := Fin.ext (by show (b.val * 1024 + t.val) % 1024 = t.val; omega)

/-- The nearest entry at a place's flat place. -/
theorem best_flat (b : Fin 32) (t : Fin 1024) : best x0 x1 (flat b t) = Spec.best (X x0) (C x1) b t := by
  unfold best
  rw [fB_flat, fT_flat]

/-- The entries looked up, at a place. -/
theorem v17_at (b : Fin 32) (t : Fin 1024) (d : Fin 64) :
    val_main_v17 (F := Ideal) x0 x1 (ix3 b t d) = C x1 (Spec.best (X x0) (C x1) b t) d := by
  rw [val_main_v17_apply, ← best_flat, ← v16_at]
  refine congrArg _ (funext fun a => Fin.ext ?_)
  have hd := d.isLt
  match a with
  | ⟨0, _⟩ => show ((b.val * 1024 + t.val) * 64 + d.val) / 64 = b.val * 1024 + t.val; omega
  | ⟨1, _⟩ => show ((b.val * 1024 + t.val) * 64 + d.val) % 64 = d.val; omega

/-- The second result: the nearest entry's index. -/
theorem idx_at (b : Fin 32) (t : Fin 1024) :
    val_main_v50 (F := Ideal) x0 x1 (ix2 b t) = BitVec.ofNat 32 (Spec.best (X x0) (C x1) b t).val := by
  rw [val_main_v50_apply, ← best_flat]
  refine Eq.trans ?_ (v15_at x0 x1 (flat b t))
  refine congrArg _ (funext fun a => Fin.ext ?_)
  match a with
  | ⟨0, _⟩ => rfl

/-- The first result, at finite arguments: the nearest entry. -/
theorem zq_at (hx : ∀ b t d, ∃ r : ℝ, X x0 b t d = r) (hc : ∀ k d, ∃ r : ℝ, C x1 k d = r) (b : Fin 32) (t : Fin 1024) (d : Fin 64) :
    val_main_v27 (F := Ideal) x0 x1 (ix3 b t d) = C x1 (Spec.best (X x0) (C x1) b t) d := by
  rw [val_main_v27_apply, val_main_v26_apply, v17_at]
  obtain ⟨r, hr⟩ := hx b t d
  obtain ⟨s, hs⟩ := hc (Spec.best (X x0) (C x1) b t) d
  show X x0 b t d + (C x1 (Spec.best (X x0) (C x1) b t) d - X x0 b t d) = _
  rw [hr, hs, ← EReal.coe_sub, ← EReal.coe_add, add_sub_cancel]

end Cert.ReferenceIdeal.Take

end
-- ==== Proof.Ref.Hist.lean ====
/- A scatter that adds one at each index word, from zeros: how often each entry is written. -/
module

public import proofs.«01_k».proof.Proof.Argmin
public import Idealize.ShloMosaic.Lib.Routing.Ops
public import Idealize.ShloMosaic.Lib.Routing.OpsPair

@[expose] public section

noncomputable section

open Idealize.ShloMosaic Idealize.ShloMosaic.Routing Idealize.ShloMosaic.ValueIdx

namespace Cert.Hist

open Cert.Argmin

/-- A fold that adds one at each entry with a property adds the number of such entries. -/
theorem foldl_add_one {α : Type} (p : α → Prop) [DecidablePred p] (v : α → BitVec 32) (hv : ∀ n, v n = 1#32) (L : List α) (c : ℕ) :
    L.foldl (fun a n => if p n then IntOp.addi a (v n) else a) (BitVec.ofNat 32 c)
      = BitVec.ofNat 32 (c + (L.map fun n => if p n then 1 else 0).sum) := by
  induction L generalizing c with
  | nil => simp
  | cons n L ih =>
    rw [List.foldl_cons, List.map_cons, List.sum_cons, hv]
    by_cases h : p n
    · rw [if_pos h, if_pos h, ← Nat.add_assoc, ← ih]
      refine congrArg (L.foldl _) ?_
      show BitVec.ofNat 32 c + 1#32 = _
      rw [← BitVec.ofNat_add]
    · rw [if_neg h, if_neg h, ih, Nat.zero_add]

variable {M N : ℕ} (d : ScatterDims (shape1 M) (shape2 N 1) (shape1 N))

/-- Update `i` lands at the entry that its index word names. -/
theorem lands (hi : d.insertedWindowDims = [0]) (hs : d.scatterDimsToOperandDims = [0]) (hv : d.indexVectorDim = 1)
    (idx : IVec (shape2 N 1) 32) (i : Fin N) (x : Fin M) :
    d.resultIdx? (ix1 i) idx = some (ix1 x) ↔ (idx (ix2 i (0 : Fin 1))).toInt = (x.val : ℤ) := by
  have hw : d.window (ix1 i) 0 = 0 := by
    unfold ScatterDims.window
    refine dif_neg fun h => ?_
    have := of_decide_eq_true (List.mem_filter.1 h).2
    exact this (by rw [hi]; exact List.mem_singleton.2 rfl)
  have hm : (0 : Fin 1) ∈ d.scatterDimsToOperandDims := by rw [hs]; exact List.mem_singleton.2 rfl
  have hx : d.siIdx (ix1 i) ⟨d.scatterDimsToOperandDims.idxOf 0, List.idxOf_lt_length_iff.2 hm⟩ = ix2 i (0 : Fin 1) := by
    funext a
    refine Fin.ext ?_
    unfold ScatterDims.siIdx
    match a with
    | ⟨0, _⟩ =>
      rw [dif_neg (by rw [hv]; exact Nat.zero_ne_one)]
      unfold ScatterDims.siCoord
      simp only [Fin.val_cast]
      have e : ∀ q : Fin 1, (ix1 i q).val = i.val := fun q => by rw [Subsingleton.elim q 0]
      exact e _
    | ⟨1, _⟩ =>
      rw [dif_pos (by rw [hv])]
      show List.idxOf (0 : Fin 1) d.scatterDimsToOperandDims = 0
      simp [hs]
  have hst : d.start (ix1 i) idx 0 = (idx (ix2 i (0 : Fin 1))).toInt := by
    unfold ScatterDims.start
    rw [dif_pos hm, hx]
  rw [resultIdx?_ix1, hw, hst]
  simp

/-- The scatter's entry `x`: the number of updates whose index is `x`. -/
theorem scatter_count (hi : d.insertedWindowDims = [0]) (hs : d.scatterDimsToOperandDims = [0]) (hv : d.indexVectorDim = 1)
    (hM : M ≤ 1024) (x0 : IVec (shape1 M) 32) (h0 : ∀ i, x0 i = 0#32) (upd : IVec (shape1 N) 32) (hu : ∀ i, upd i = 1#32)
    (idx : IVec (shape2 N 1) 32) (g : Fin N → Fin M) (hg : ∀ i, idx (ix2 i (0 : Fin 1)) = BitVec.ofNat 32 (g i).val) (x : Fin M) :
    Host.scatter d IntOp.addi x0 idx upd (ix1 x) = BitVec.ofNat 32 (∑ i : Fin N, if g i = x then 1 else 0) := by
  have hl : ∀ n : Fin (shape1 N).numel,
      d.resultIdx? ((shape1 N).rowMajor.symm n) idx = some (ix1 x) ↔ g (n.cast (numel1 N)) = x := by
    intro n
    rw [symm1, lands d hi hs hv, hg, toInt_ofNat ⟨(g (n.cast (numel1 N))).val, lt_of_lt_of_le (g (n.cast (numel1 N))).isLt hM⟩, Fin.ext_iff]
    exact Int.natCast_inj
  rw [scatter_at, h0]
  refine (foldl_add_one (fun n => d.resultIdx? ((shape1 N).rowMajor.symm n) idx = some (ix1 x)) _ (fun n => hu _) _ 0).trans ?_
  rw [Nat.zero_add, ← Fin.sum_univ_def]
  refine congrArg (BitVec.ofNat 32) ?_
  refine Fintype.sum_equiv (finCongr (numel1 N)) _ _ fun n => ?_
  simp only [hl]
  rfl

end Cert.Hist

end
-- ==== Proof.Ref.Stats.lean ====
/- The reference's two statistics: the loss and the perplexity. -/
module

public import proofs.«01_k».proof.Proof.Ref.Take
public import proofs.«01_k».proof.Proof.Ref.Hist
public import Idealize.ShloMosaic.Lib.Pointwise

@[expose] public section

set_option maxRecDepth 16384

noncomputable section

open Idealize.ShloMosaic Idealize.ShloMosaic.TcCoe Idealize.SL.Sem

namespace Cert.ReferenceIdeal.Stats

open Cert.ReferenceIdeal Cert.ReferenceIdeal.Gen Cert.ReferenceIdeal.Read Cert.ReferenceIdeal.Near Cert.ReferenceIdeal.Take

variable (x0 : (⟨S32x1024x64, .f32⟩ : BufTy).Contents (Elt Ideal)) (x1 : (⟨S1024x64, .f32⟩ : BufTy).Contents (Elt Ideal))

/-- A sum of reals is the sum of the same numbers as extended reals. -/
theorem coe_sum {ι : Type} [Fintype ι] (f : ι → ℝ) : ((∑ i, f i : ℝ) : EReal) = ∑ i, (f i : EReal) :=
  map_sum (⟨⟨Real.toEReal, rfl⟩, EReal.coe_add⟩ : ℝ →+ EReal) f Finset.univ

/-- The index counted, after the clamp and the wrap of negative ones: the nearest entry. -/
theorem v31_at (n : Fin 32768) : val_main_v31 (F := Ideal) x0 x1 (ix1 n) = BitVec.ofNat 32 (best x0 x1 n).val := by
  rw [val_main_v31_apply, v15_at, val_main_call2_v1_apply]
  exact Words.max_zero _

/-- The same after the wrap. -/
theorem v36_at (n : Fin 32768) : val_main_v36 (F := Ideal) x0 x1 (ix1 n) = BitVec.ofNat 32 (best x0 x1 n).val := by
  rw [val_main_v36_apply, val_main_v33_apply, v31_at, val_main_v32_apply, val_main_c_8_apply, Words.slt_zero]
  rfl

/-- The same as a column. -/
theorem v37_at (n : Fin 32768) (z : Fin 1) : val_main_v37 (F := Ideal) x0 x1 (ix2 n z) = BitVec.ofNat 32 (best x0 x1 n).val := by
  rw [val_main_v37_apply, ← v36_at]
  refine congrArg _ (funext fun a => ?_)
  match a with
  | ⟨0, _⟩ => rfl

/-- How many flat places have `k` as their nearest entry. -/
def tally (k : Fin 1024) : ℕ := ∑ n : Fin 32768, if best x0 x1 n = k then 1 else 0

/-- There are no more than the places. -/
theorem tally_le (k : Fin 1024) : tally x0 x1 k ≤ 32768 := by
  unfold tally
  refine (Finset.sum_le_card_nsmul _ _ 1 fun n _ => ?_).trans ?_
  · split <;> simp
  · simp

/-- The scattered counts. -/
theorem v39_at (k : Fin 1024) : val_main_v39 (F := Ideal) x0 x1 (ix1 k) = BitVec.ofNat 32 (tally x0 x1 k) := by
  have h := fun n => v37_at x0 x1 n 0
  have hz : ∀ i, val_main_v30 (F := Ideal) i = 0#32 := fun i => (val_main_v30_apply i).trans (val_main_c_apply _)
  have ho : ∀ i, val_main_v38 (F := Ideal) i = 1#32 := fun i => (val_main_v38_apply i).trans (val_main_c_10_apply _)
  unfold val_main_v39 tally
  generalize val_main_v37 (F := Ideal) x0 x1 = idx at h ⊢
  generalize val_main_v30 (F := Ideal) = z at hz ⊢
  generalize val_main_v38 (F := Ideal) = o at ho ⊢
  exact Hist.scatter_count scatter_S1024_S32768x1_S32768_n_0_0_1 rfl rfl rfl le_rfl z hz o ho idx _ h k

/-- The tally is the count. -/
theorem tally_eq (k : Fin 1024) : (((tally x0 x1 k : ℕ) : ℝ) : EReal) = Spec.count (X x0) (C x1) k := by
  unfold tally Spec.count
  rw [Fin.sum_univ_tiles 32 1024 rfl]
  have e : ∀ (b : Fin 32) (t : Fin 1024), best x0 x1 ⟨b.val * 1024 + t.val, by omega⟩ = Spec.best (X x0) (C x1) b t := best_flat x0 x1
  simp only [e]
  push_cast
  rw [coe_sum]
  refine Finset.sum_congr rfl fun b _ => ?_
  rw [coe_sum]
  refine Finset.sum_congr rfl fun t _ => ?_
  split <;> rfl

/-- The counts, as floats. -/
theorem v40_at (k : Fin 1024) : val_main_v40 (F := Ideal) x0 x1 (ix1 k) = Spec.count (X x0) (C x1) k := by
  have h := tally_le x0 x1 k
  rw [val_main_v40_apply, v39_at, ← tally_eq]
  show (((BitVec.ofNat 32 (tally x0 x1 k)).toInt : ℝ) : EReal) = _
  rw [StableHlo.Predicate.toInt_ofNat_small _ (by omega)]
  rfl

/-- The frequencies. -/
theorem v42_at (k : Fin 1024) : val_main_v42 (F := Ideal) x0 x1 (ix1 k) = Spec.freq (X x0) (C x1) k := by
  rw [val_main_v42_apply, v40_at, val_main_v41_apply, val_main_cst_11_apply]
  rfl

/-- The terms of the entropy. -/
theorem v46_at (k : Fin 1024) : val_main_v46 (F := Ideal) x0 x1 (ix1 k)
    = Spec.freq (X x0) (C x1) k * Ideal.log (Spec.freq (X x0) (C x1) k + Ideal.ofBits .f32 0x2B8CBCCC#32) := by
  rw [val_main_v46_apply, val_main_v45_apply, val_main_v44_apply, v42_at, val_main_v43_apply, val_main_cst_12_apply]
  rfl

/-- The perplexity. -/
theorem v49_at (i : S_.Idx) : val_main_v49 (F := Ideal) x0 x1 i = Spec.perplexity (X x0) (C x1) := by
  rw [val_main_v49_apply, val_main_v48_apply, val_main_v47_apply, sum_idx1]
  simp only [v46_at]
  rw [show val_main_cst_13 (F := Ideal) (Shape.Idx.first h_S_) = (0 : EReal) from Consts.zero, zero_add]
  rfl

section Loss

variable (r : Fin 32 → Fin 1024 → Fin 64 → ℝ) (s : Fin 1024 → Fin 64 → ℝ)

/-- At real vectors and entries the expanded distance is the sum of the squared differences. -/
theorem dist_real (b : Fin 32) (t k : Fin 1024) :
    Spec.dist (fun b t d => (r b t d : EReal)) (fun k d => (s k d : EReal)) b t k = ((∑ d, (r b t d - s k d) * (r b t d - s k d) : ℝ) : EReal) := by
  unfold Spec.dist
  have h2 : (2 : EReal) = ((2 : ℝ) : EReal) := rfl
  simp only [← EReal.coe_mul, ← coe_sum, h2, ← EReal.coe_add, ← EReal.coe_sub]
  refine congrArg _ ?_
  rw [Finset.mul_sum, ← Finset.sum_add_distrib, ← Finset.sum_sub_distrib]
  exact Finset.sum_congr rfl fun d _ => by ring

/-- The sum of the squared differences, as a real. -/
def sq : ℝ := ∑ b : Fin 32, ∑ t : Fin 1024, ∑ d,
  (r b t d - s (Spec.best (fun b t d => (r b t d : EReal)) (fun k d => (s k d : EReal)) b t) d)
    * (r b t d - s (Spec.best (fun b t d => (r b t d : EReal)) (fun k d => (s k d : EReal)) b t) d)

/-- The total of the least distances at real arguments. -/
theorem total_real : Spec.total (fun b t d => (r b t d : EReal)) (fun k d => (s k d : EReal)) = ((sq r s : ℝ) : EReal) := by
  unfold Spec.total sq
  simp only [dist_real, ← coe_sum]

/-- The loss at real arguments. -/
theorem loss_real : Spec.loss (fun b t d => (r b t d : EReal)) (fun k d => (s k d : EReal)) = ((5 / 4 * sq r s / 2097152 : ℝ) : EReal) := by
  unfold Spec.loss
  rw [total_real, Consts.fiveQuarters, Consts.scalars, Ideal.div_coe (by norm_num), ← EReal.coe_mul, ← EReal.coe_mul]
  refine congrArg _ ?_
  ring

end Loss

/-- The squared differences summed, at real arguments. -/
theorem sum_sq (r : Fin 32 → Fin 1024 → Fin 64 → ℝ) (s : Fin 1024 → Fin 64 → ℝ)
    (hx : X x0 = fun b t d => (r b t d : EReal)) (hc : C x1 = fun k d => (s k d : EReal))
    (y : FVec Ideal S32x1024x64 .f32)
    (hy : ∀ b t d, y (ix3 b t d) = (X x0 b t d - C x1 (Spec.best (X x0) (C x1) b t) d) * (X x0 b t d - C x1 (Spec.best (X x0) (C x1) b t) d)) :
    ∑ i : S32x1024x64.Idx, (y i : EReal) = ((sq r s : ℝ) : EReal) := by
  rw [sum_idx3]
  simp only [hy]
  rw [hx, hc]
  simp only [← EReal.coe_sub, ← EReal.coe_mul, ← coe_sum]
  rfl

/-- The loss, at finite arguments. -/
theorem v29_at (hx : ∀ b t d, ∃ r : ℝ, X x0 b t d = r) (hc : ∀ k d, ∃ r : ℝ, C x1 k d = r) (i : S_.Idx) :
    val_main_v29 (F := Ideal) x0 x1 i = Spec.loss (X x0) (C x1) := by
  choose r hr using hx
  choose s hs using hc
  have hX : X x0 = fun b t d => (r b t d : EReal) := by funext b t d; exact hr b t d
  have hC : C x1 = fun k d => (s k d : EReal) := by funext k d; exact hs k d
  have h19 : ∑ i : S32x1024x64.Idx, (val_main_v19 (F := Ideal) x0 x1 i : EReal) = ((sq r s : ℝ) : EReal) :=
    sum_sq x0 x1 r s hX hC _ fun b t d => by rw [val_main_v19_apply, val_main_v18_apply, v17_at]; rfl
  have h23 : ∑ i : S32x1024x64.Idx, (val_main_v23 (F := Ideal) x0 x1 i : EReal) = ((sq r s : ℝ) : EReal) :=
    sum_sq x0 x1 r s hX hC _ fun b t d => by rw [val_main_v23_apply, val_main_v22_apply, v17_at]; rfl
  have z2 : val_main_cst_2 (F := Ideal) (Shape.Idx.first h_S_) = (0 : EReal) := Consts.zero
  have z4 : val_main_cst_4 (F := Ideal) (Shape.Idx.first h_S_) = (0 : EReal) := Consts.zero
  have c3 : val_main_cst_3 (F := Ideal) i = ((2097152 : ℝ) : EReal) := Consts.scalars
  have c5 : val_main_cst_5 (F := Ideal) i = ((2097152 : ℝ) : EReal) := Consts.scalars
  have c6 : val_main_cst_6 (F := Ideal) i = ((1 / 4 : ℝ) : EReal) := Consts.quarter
  rw [val_main_v29_apply, val_main_v28_apply, val_main_v25_apply, val_main_v21_apply, val_main_v20_apply, val_main_v24_apply,
    h19, h23, z2, z4, c3, c5, c6, hX, hC, loss_real, zero_add]
  show Ideal.div ((sq r s : ℝ) : EReal) ((2097152 : ℝ) : EReal)
    + ((1 / 4 : ℝ) : EReal) * Ideal.div ((sq r s : ℝ) : EReal) ((2097152 : ℝ) : EReal) = _
  rw [Ideal.div_coe (by norm_num), ← EReal.coe_mul, ← EReal.coe_mul, ← EReal.coe_add]
  refine congrArg _ ?_
  ring

/-- The third result. -/
theorem loss_at (hx : ∀ b t d, ∃ r : ℝ, X x0 b t d = r) (hc : ∀ k d, ∃ r : ℝ, C x1 k d = r) :
    val_main_v51 (F := Ideal) x0 x1 (ix2 (0 : Fin 1) (0 : Fin 1)) = Spec.loss (X x0) (C x1) :=
  v29_at x0 x1 hx hc _

/-- The fourth result. -/
theorem perp_at : val_main_v52 (F := Ideal) x0 x1 (ix2 (0 : Fin 1) (0 : Fin 1)) = Spec.perplexity (X x0) (C x1) :=
  v49_at x0 x1 _

end Cert.ReferenceIdeal.Stats

end
-- ==== Proof.Finite.lean ====
/- What the precondition says: every entry of both arguments is a real number. -/
module

public import proofs.«01_k».proof.Pre_finite
public import proofs.«01_k».proof.Proof.Consts
public import Idealize.ShloMosaic.Lib.Pointwise
public import Idealize.ShloMosaic.PureOps.Reduce
public import Idealize.ShloMosaic.PureOps.Contract

@[expose] public section

noncomputable section

open Idealize.ShloMosaic

namespace Cert.Finite

/-- The shape facts the precondition states. -/
theorem facts : Cert.Pre_finite.Facts where
  bcast_S_S32x1024x64 := by decide
  reducesTo_S32x1024x64_S_d0_1_2 := by decide
  h_S_ := by decide
  bcast_S_S1024x64 := by decide
  reducesTo_S1024x64_S_d0_1 := by decide

/-- A conjunction of two single bits is true only if both are. -/
theorem and_true (a b : BitVec 1) (h : IntOp.andi a b = 1#1) : a = 1#1 ∧ b = 1#1 := by
  revert a b; decide

/-- A conjunction folded over a list is true only if it started true and every entry is true. -/
theorem fold_true {ι : Type} (f : ι → BitVec 1) (L : List ι) : ∀ a : BitVec 1,
    L.foldl (fun r n => IntOp.andi r (f n)) a = 1#1 → a = 1#1 ∧ ∀ n ∈ L, f n = 1#1 := by
  induction L with
  | nil => exact fun a h => ⟨h, fun n hn => absurd hn (by simp)⟩
  | cons k L ih =>
    intro a h
    obtain ⟨h₁, h₂⟩ := ih _ h
    obtain ⟨h₃, h₄⟩ := and_true _ _ h₁
    refine ⟨h₃, fun n hn => ?_⟩
    rcases List.mem_cons.1 hn with rfl | hn
    · exact h₄
    · exact h₂ n hn

/-- If the conjunction of a whole array is true, every entry is true. -/
theorem reduce_true {s t u : Shape} {axes : List (Fin s.rank)} (x : IVec s 1) (init : IVec u 1) (h : s.ReducesTo axes t)
    (hu : 0 < u.numel) (j : t.Idx) (one : ∀ a b : t.Idx, a = b) (hr : Host.reduce IntOp.andi x init h hu j = 1#1) (i : s.Idx) :
    x i = 1#1 := by
  unfold Host.reduce at hr
  have := (fold_true (fun n => x (s.rowMajor.symm n)) _ _ hr).2 (s.rowMajor i)
    (List.mem_filter.2 ⟨List.mem_finRange _, by simpa using one _ _⟩)
  simpa using this

/-- An extended real whose absolute value is below infinity is a real number. -/
theorem real_of_lt (x : EReal) (h : max x (-x) < ⊤) : ∃ r : ℝ, x = r := by
  induction x with
  | bot => simp at h
  | top => simp at h
  | coe r => exact ⟨r, rfl⟩

/-- The comparison the precondition makes at an entry is true only of a real number. -/
theorem real_of_cmp (x : EReal) (h : FloatOps.cmpf (F := Ideal) (φ := .f32) .olt (FloatOps.hostAbsf (F := Ideal) (φ := .f32) x)
    (Ideal.ofBits .f32 0x7F800000#32) = 1#1) : ∃ r : ℝ, x = r := by
  rw [Consts.infinity] at h
  refine real_of_lt x (not_not.1 fun hn => ?_)
  have : FloatOps.cmpf (F := Ideal) (φ := .f32) .olt (FloatOps.hostAbsf (F := Ideal) (φ := .f32) x) (⊤ : EReal) = 0#1 := by
    show BitVec.ofBool (decide (max x (-x) < ⊤)) = 0#1
    simp only [hn, decide_false]; rfl
  rw [this] at h
  exact absurd h (by decide)

/-- Two places of the scalar shape are one. -/
theorem scalar_one (a b : Cert.Pre_finite.S_.Idx) : a = b := funext fun k => k.elim0

/-- Under the precondition every entry of the vectors and of the codebook is a real number. -/
theorem reals [Cert.Pre_finite.Facts] (x : FVec Ideal Cert.Pre_finite.S32x1024x64 .f32) (c : FVec Ideal Cert.Pre_finite.S1024x64 .f32)
    (h : Cert.Pre_finite.fn (F := Ideal) x c = fun _ => 1#1) : (∀ i, ∃ r : ℝ, x i = r) ∧ ∀ i, ∃ r : ℝ, c i = r := by
  have h0 := congrFun h (fun k => k.elim0)
  unfold Cert.Pre_finite.fn at h0
  obtain ⟨h₁, h₂⟩ := and_true _ _ h0
  exact ⟨fun i => real_of_cmp (x i) (reduce_true _ _ _ _ _ scalar_one h₁ i),
    fun i => real_of_cmp (c i) (reduce_true _ _ _ _ _ scalar_one h₂ i)⟩

end Cert.Finite

end
-- ==== Proof.lean ====
/- The certificate: the kernel and the reference run and leave their arguments and counters as they were, and on finite
   arguments the kernel's four results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Kern.Final
public import proofs.«01_k».proof.Proof.Ref.Run
public import proofs.«01_k».proof.Proof.Ref.Stats
public import proofs.«01_k».proof.Proof.Ref.Take
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- A place of the one-by-one shape is its only one. -/
theorem only (i : (⟨2, ![1, 1]⟩ : Shape).Idx) : i = ix2 (0 : Fin 1) (0 : Fin 1) := by
  funext a
  match a with
  | ⟨0, _⟩ => exact Subsingleton.elim (α := Fin 1) _ _
  | ⟨1, _⟩ => exact Subsingleton.elim (α := Fin 1) _ _

/-- A place of a two-axis shape is a pair. -/
theorem pair {p q : ℕ} (i : (⟨2, ![p, q]⟩ : Shape).Idx) : ∃ a b, i = ix2 a b :=
  ⟨i 0, i 1, by funext a; match a with | ⟨0, _⟩ => rfl | ⟨1, _⟩ => rfl⟩

/-- A place of a three-axis shape is a triple. -/
theorem triple {p q r : ℕ} (i : (⟨3, ![p, q, r]⟩ : Shape).Idx) : ∃ a b c, i = ix3 a b c :=
  ⟨i 0, i 1, i 2, by funext a; match a with | ⟨0, _⟩ => rfl | ⟨1, _⟩ => rfl | ⟨2, _⟩ => rfl⟩

section Results

open Cert.KernelIdeal Cert.KernelIdeal.Gen Cert.KernelIdeal.Value

variable (m : (ℓ : Loc nD τ sig) → Buf (Elt Ideal) ℓ) (c : Dev nD)

/-- The vectors the kernel is given. -/
def vectors : (⟨Cert.ReferenceIdeal.S32x1024x64, .f32⟩ : BufTy).Contents (Elt Ideal) := m ((c.tc : Thread nD τ).loc main_arg0)

/-- The codebook the kernel is given. -/
def codebook : (⟨Cert.ReferenceIdeal.S1024x64, .f32⟩ : BufTy).Contents (Elt Ideal) := m ((c.tc : Thread nD τ).loc main_arg1)

/-- The first results agree. -/
theorem same_zq (hx : ∀ i, ∃ r : ℝ, vectors m c i = r) (hc : ∀ i, ∃ r : ℝ, codebook m c i = r) :
    Cert.ReferenceIdeal.Read.val_main_v27 (F := Ideal) (vectors m c) (codebook m c) = G4 m c := by
  funext i
  obtain ⟨b, t, d, rfl⟩ := triple i
  exact (Cert.ReferenceIdeal.Take.zq_at _ _ (fun _ _ _ => hx _) (fun _ _ => hc _) b t d).trans (Cert.KernelIdeal.Final.zq m c b t d).symm

/-- The second results agree. -/
theorem same_idx : Cert.ReferenceIdeal.Read.val_main_v50 (F := Ideal) (vectors m c) (codebook m c) = G5 m c := by
  funext i
  obtain ⟨b, t, rfl⟩ := pair i
  exact (Cert.ReferenceIdeal.Take.idx_at _ _ b t).trans (Cert.KernelIdeal.Final.idx m c b t).symm

/-- The third results agree. -/
theorem same_loss (hx : ∀ i, ∃ r : ℝ, vectors m c i = r) (hc : ∀ i, ∃ r : ℝ, codebook m c i = r) :
    Cert.ReferenceIdeal.Read.val_main_v51 (F := Ideal) (vectors m c) (codebook m c) = G6 m c := by
  funext i
  obtain rfl := only i
  exact (Cert.ReferenceIdeal.Stats.loss_at _ _ (fun _ _ _ => hx _) (fun _ _ => hc _)).trans (Cert.KernelIdeal.Final.loss m c).symm

/-- The fourth results agree. -/
theorem same_perp : Cert.ReferenceIdeal.Read.val_main_v52 (F := Ideal) (vectors m c) (codebook m c) = G7 m c := by
  funext i
  obtain rfl := only i
  exact (Cert.ReferenceIdeal.Stats.perp_at _ _).trans (Cert.KernelIdeal.Final.perp m c).symm

end Results

/-- The reference leaves its arguments and every counter as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2.2.2, sem_eq_zero_of_no_sems (by decide) _⟩) (Cert.ReferenceIdeal.Value.run (F := Ideal) m g)

/-- On finite arguments the kernel's four results are the reference's. -/
theorem values (hPre : Cert.Pre_finite.Facts) : Cert.algebraic_KernelIdeal_ReferenceIdeal_pre_finite
    (hKernelIdeal := Cert.KernelIdeal.Gen.facts) (hReferenceIdeal := Cert.ReferenceIdeal.Gen.facts) (hPre_finite := hPre) := by
  intro m g m' g' hpre hagree
  refine ⟨fun c => Cert.KernelIdeal.Value.G4 m c, fun c => Cert.KernelIdeal.Value.G5 m c, fun c => Cert.KernelIdeal.Value.G6 m c,
    fun c => Cert.KernelIdeal.Value.G7 m c, Cert.KernelIdeal.Value.run (F := Ideal) m g, ?_⟩
  refine (θ_run _ _ _).mono (fun r h c => ?_) (Cert.ReferenceIdeal.Value.run (F := Ideal) m' g')
  obtain ⟨h₀, h₁, h₂, h₃, h₄, h₅⟩ := h c
  obtain ⟨a₀, a₁⟩ := hagree c
  obtain ⟨hx, hc⟩ := Cert.Finite.reals _ _ (hpre c)
  rw [a₀, a₁] at h₀ h₁ h₂ h₃
  exact ⟨h₀.trans (same_zq m c hx hc), h₁.trans (same_idx m c), h₂.trans (same_loss m c hx hc), h₃.trans (same_perp m c), h₄, h₅⟩

/-- Everything claimed. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    values _⟩

end Cert.Proof

end
